-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_in_range [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_positions_in_range [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "log2" .f32 0x3F317218#32 ((Real.log 2 : ℝ) : EReal)

def algebraic_KernelIdeal_ReferenceIdeal_pre_positions_in_range [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_positions_in_range : Cert.Pre_positions_in_range.Facts),
    quiescent_Kernel (hKernel := hKernel)
    ∧ quiescent_KernelIdeal (hKernelIdeal := hKernelIdeal)
    ∧ quiescent_KernelIdeal_pre_positions_in_range (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ preserves_Kernel_KernelIdeal
    ∧ algebraic_KernelIdeal_ReferenceIdeal_pre_positions_in_range (hKernelIdeal := hKernelIdeal) (hReferenceIdeal := hReferenceIdeal) (hPre_positions_in_range := hPre_positions_in_range)
-- ==== Pre_positions_in_range.lean ====
abbrev S1x3 : Shape := ⟨2, ![1, 3]⟩
abbrev S10000x3 : Shape := ⟨2, ![10000, 3]⟩
abbrev S10000x256 : Shape := ⟨2, ![10000, 256]⟩
abbrev S2000x3 : Shape := ⟨2, ![2000, 3]⟩
abbrev S2000x256 : Shape := ⟨2, ![2000, 256]⟩
abbrev S512x512 : Shape := ⟨2, ![512, 512]⟩
abbrev S512 : Shape := ⟨1, ![512]⟩
abbrev S256x512 : Shape := ⟨2, ![256, 512]⟩
abbrev S1024x512 : Shape := ⟨2, ![1024, 512]⟩
abbrev S512x32 : Shape := ⟨2, ![512, 32]⟩
abbrev S32 : Shape := ⟨1, ![32]⟩
abbrev S512x1 : Shape := ⟨2, ![512, 1]⟩
abbrev S1 : Shape := ⟨1, ![1]⟩
abbrev S_ : Shape := ⟨0, ![]⟩

class Facts : Prop where
  bcast_S_S1x3 : S_.BroadcastsInDim S1x3 (![] : Fin 0 → Fin S1x3.rank)
  bcast_S_S10000x3 : S_.BroadcastsInDim S10000x3 (![] : Fin 0 → Fin S10000x3.rank)
  bcast_S_S2000x3 : S_.BroadcastsInDim S2000x3 (![] : Fin 0 → Fin S2000x3.rank)

variable [Facts]

def fn {F : FTy → Type} [FloatOps F] (main_arg0 : FVec F S1x3 .f32) (main_arg1 : FVec F S10000x3 .f32) (main_arg2 : FVec F S10000x256 .f32) (main_arg3 : FVec F S2000x3 .f32) (main_arg4 : FVec F S2000x256 .f32) (main_arg5 : FVec F S512x512 .f32) (main_arg6 : FVec F S512 .f32) (main_arg7 : FVec F S512x512 .f32) (main_arg8 : FVec F S512 .f32) (main_arg9 : FVec F S256x512 .f32) (main_arg10 : FVec F S512 .f32) (main_arg11 : FVec F S1024x512 .f32) (main_arg12 : FVec F S512 .f32) (main_arg13 : FVec F S512x32 .f32) (main_arg14 : FVec F S32 .f32) (main_arg15 : FVec F S512x512 .f32) (main_arg16 : FVec F S512 .f32) (main_arg17 : FVec F S512x1 .f32) (main_arg18 : FVec F S1 .f32) : IVec S1x3 1 × IVec S10000x3 1 × IVec S2000x3 1 :=
  let main_v0 : FVec F S1x3 .f32 := Host.absf main_arg0
  let main_cst : FVec F S_ .f32 := constant S_ .f32 0x48927C00#32
  let main_v1 : FVec F S1x3 .f32 := broadcastInDim S1x3 ![] bcast_S_S1x3 main_cst
  let main_v2 : IVec S1x3 1 := cmpf .ole main_v0 main_v1
  let main_v3 : FVec F S10000x3 .f32 := Host.absf main_arg1
  let main_cst_0 : FVec F S_ .f32 := constant S_ .f32 0x48927C00#32
  let main_v4 : FVec F S10000x3 .f32 := broadcastInDim S10000x3 ![] bcast_S_S10000x3 main_cst_0
  let main_v5 : IVec S10000x3 1 := cmpf .ole main_v3 main_v4
  let main_v6 : FVec F S2000x3 .f32 := Host.absf main_arg3
  let main_cst_1 : FVec F S_ .f32 := constant S_ .f32 0x48927C00#32
  let main_v7 : FVec F S2000x3 .f32 := broadcastInDim S2000x3 ![] bcast_S_S2000x3 main_cst_1
  let main_v8 : IVec S2000x3 1 := cmpf .ole main_v6 main_v7
  (main_v2, main_v5, main_v8)
-- ==== Kernel.lean ====
abbrev S1x3 : Shape := ⟨2, ![1, 3]⟩
abbrev S10000x3 : Shape := ⟨2, ![10000, 3]⟩
abbrev S10000x256 : Shape := ⟨2, ![10000, 256]⟩
abbrev S2000x3 : Shape := ⟨2, ![2000, 3]⟩
abbrev S2000x256 : Shape := ⟨2, ![2000, 256]⟩
abbrev S512x512 : Shape := ⟨2, ![512, 512]⟩
abbrev S512 : Shape := ⟨1, ![512]⟩
abbrev S256x512 : Shape := ⟨2, ![256, 512]⟩
abbrev S1024x512 : Shape := ⟨2, ![1024, 512]⟩
abbrev S512x32 : Shape := ⟨2, ![512, 32]⟩
abbrev S32 : Shape := ⟨1, ![32]⟩
abbrev S512x1 : Shape := ⟨2, ![512, 1]⟩
abbrev S1 : Shape := ⟨1, ![1]⟩
abbrev S_ : Shape := ⟨0, ![]⟩
abbrev S112x3 : Shape := ⟨2, ![112, 3]⟩
abbrev S10112x3 : Shape := ⟨2, ![10112, 3]⟩
abbrev S3x10112 : Shape := ⟨2, ![3, 10112]⟩
abbrev S112x256 : Shape := ⟨2, ![112, 256]⟩
abbrev S10112x256 : Shape := ⟨2, ![10112, 256]⟩
abbrev S10112 : Shape := ⟨1, ![10112]⟩
abbrev S1x10112 : Shape := ⟨2, ![1, 10112]⟩
abbrev S5x1x10112 : Shape := ⟨3, ![5, 1, 10112]⟩
abbrev S400x3 : Shape := ⟨2, ![400, 3]⟩
abbrev S1x1x10112 : Shape := ⟨3, ![1, 1, 10112]⟩
abbrev S400 : Shape := ⟨1, ![400]⟩
abbrev S400x1 : Shape := ⟨2, ![400, 1]⟩
abbrev S400x10112 : Shape := ⟨2, ![400, 10112]⟩
abbrev S1x512 : Shape := ⟨2, ![1, 512]⟩
abbrev S1x32 : Shape := ⟨2, ![1, 32]⟩
abbrev S1x1 : Shape := ⟨2, ![1, 1]⟩
abbrev S1x256 : Shape := ⟨2, ![1, 256]⟩
abbrev S256 : Shape := ⟨1, ![256]⟩
abbrev S1x1024 : Shape := ⟨2, ![1, 1024]⟩

abbrev nBuf : Space → Nat
  | .hbm => 45
  | .vmem => 27
  | .smem => 0
  | _ => 0

abbrev bufTy : (tb : Table) → Fin (tcTables nBuf tb) → BufTy
  | .hbm, ⟨0, _⟩ => ⟨S1x3, .f32⟩
  | .hbm, ⟨1, _⟩ => ⟨S10000x3, .f32⟩
  | .hbm, ⟨2, _⟩ => ⟨S10000x256, .f32⟩
  | .hbm, ⟨3, _⟩ => ⟨S2000x3, .f32⟩
  | .hbm, ⟨4, _⟩ => ⟨S2000x256, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S512x32, .f32⟩
  | .hbm, ⟨14, _⟩ => ⟨S32, .f32⟩
  | .hbm, ⟨15, _⟩ => ⟨S512x512, .f32⟩
  | .hbm, ⟨16, _⟩ => ⟨S512, .f32⟩
  | .hbm, ⟨17, _⟩ => ⟨S512x1, .f32⟩
  | .hbm, ⟨18, _⟩ => ⟨S1, .f32⟩
  | .hbm, ⟨19, _⟩ => ⟨S_, .f32⟩
  | .hbm, ⟨20, _⟩ => ⟨S112x3, .f32⟩
  | .hbm, ⟨21, _⟩ => ⟨S10112x3, .f32⟩
  | .hbm, ⟨22, _⟩ => ⟨S3x10112, .f32⟩
  | .hbm, ⟨23, _⟩ => ⟨S_, .f32⟩
  | .hbm, ⟨24, _⟩ => ⟨S112x256, .f32⟩
  | .hbm, ⟨25, _⟩ => ⟨S10112x256, .f32⟩
  | .hbm, ⟨26, _⟩ => ⟨S10112, .i32⟩
  | .hbm, ⟨27, _⟩ => ⟨S_, .i32⟩
  | .hbm, ⟨28, _⟩ => ⟨S10112, .i32⟩
  | .hbm, ⟨29, _⟩ => ⟨S10112, .i32⟩
  | .hbm, ⟨30, _⟩ => ⟨S10112, .i16⟩
  | .hbm, ⟨31, _⟩ => ⟨S10112, .bf16⟩
  | .hbm, ⟨32, _⟩ => ⟨S1x10112, .bf16⟩
  | .hbm, ⟨33, _⟩ => ⟨S5x1x10112, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x32, .f32⟩
  | .hbm, ⟨39, _⟩ => ⟨S1x512, .f32⟩
  | .hbm, ⟨40, _⟩ => ⟨S1x1, .f32⟩
  | .hbm, ⟨41, _⟩ => ⟨S1x32, .f32⟩
  | .hbm, ⟨42, _⟩ => ⟨S1x1, .f32⟩
  | .hbm, ⟨43, _⟩ => ⟨S32, .f32⟩
  | .hbm, ⟨44, _⟩ => ⟨S1, .f32⟩
  | .local _ .vmem, ⟨0, _⟩ => ⟨S400x3, .f32⟩
  | .local _ .vmem, ⟨1, _⟩ => ⟨S400x3, .f32⟩
  | .local _ .vmem, ⟨2, _⟩ => ⟨S3x10112, .f32⟩
  | .local _ .vmem, ⟨3, _⟩ => ⟨S1x10112, .bf16⟩
  | .local _ .vmem, ⟨4, _⟩ => ⟨S1x1x10112, .f32⟩
  | .local _ .vmem, ⟨5, _⟩ => ⟨S1x1x10112, .f32⟩
  | .local _ .vmem, ⟨6, _⟩ => ⟨S5x1x10112, .f32⟩
  | .local _ .vmem, ⟨7, _⟩ => ⟨S10112x256, .f32⟩
  | .local _ .vmem, ⟨8, _⟩ => ⟨S2000x256, .f32⟩
  | .local _ .vmem, ⟨9, _⟩ => ⟨S1x3, .f32⟩
  | .local _ .vmem, ⟨10, _⟩ => ⟨S3x10112, .f32⟩
  | .local _ .vmem, ⟨11, _⟩ => ⟨S512x512, .f32⟩
  | .local _ .vmem, ⟨12, _⟩ => ⟨S1x512, .f32⟩
  | .local _ .vmem, ⟨13, _⟩ => ⟨S512x512, .f32⟩
  | .local _ .vmem, ⟨14, _⟩ => ⟨S1x512, .f32⟩
  | .local _ .vmem, ⟨15, _⟩ => ⟨S256x512, .f32⟩
  | .local _ .vmem, ⟨16, _⟩ => ⟨S1x512, .f32⟩
  | .local _ .vmem, ⟨17, _⟩ => ⟨S1024x512, .f32⟩
  | .local _ .vmem, ⟨18, _⟩ => ⟨S1x512, .f32⟩
  | .local _ .vmem, ⟨19, _⟩ => ⟨S512x32, .f32⟩
  | .local _ .vmem, ⟨20, _⟩ => ⟨S1x32, .f32⟩
  | .local _ .vmem, ⟨21, _⟩ => ⟨S512x512, .f32⟩
  | .local _ .vmem, ⟨22, _⟩ => ⟨S1x512, .f32⟩
  | .local _ .vmem, ⟨23, _⟩ => ⟨S512x1, .f32⟩
  | .local _ .vmem, ⟨24, _⟩ => ⟨S1x1, .f32⟩
  | .local _ .vmem, ⟨25, _⟩ => ⟨S1x32, .f32⟩
  | .local _ .vmem, ⟨26, _⟩ => ⟨S1x1, .f32⟩
  | _, _ => ⟨S1x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg15_0 : Ref sig .tc := ⟨.vmem, 21, rfl⟩
abbrev cc1_stg16_0 : Ref sig .tc := ⟨.vmem, 22, rfl⟩
abbrev cc1_stg17_0 : Ref sig .tc := ⟨.vmem, 23, rfl⟩
abbrev cc1_stg18_0 : Ref sig .tc := ⟨.vmem, 24, rfl⟩
abbrev cc1_stg19_0 : Ref sig .tc := ⟨.vmem, 25, rfl⟩
abbrev cc1_stg20_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem16_0 : DmaSem sig := 22
abbrev cc1_sem17_0 : DmaSem sig := 23
abbrev cc1_sem18_0 : DmaSem sig := 24
abbrev cc1_sem19_0 : DmaSem sig := 25
abbrev cc1_sem20_0 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x10112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S5x1x10112 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10112x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S3x10112 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S256x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1024x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S512x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S512x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S512x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1x32 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S1x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
-- ==== KernelIdeal.lean ====
variable {F : FTy → Type} [FloatOps F] [Named F]
def κ : String → Option EReal := fun
  | "log2" => some ((Real.log 2 : ℝ) : EReal)
  | _ => none
-- ==== ReferenceIdeal.lean ====
abbrev S1x3 : Shape := ⟨2, ![1, 3]⟩
abbrev S10000x3 : Shape := ⟨2, ![10000, 3]⟩
abbrev S10000x256 : Shape := ⟨2, ![10000, 256]⟩
abbrev S2000x3 : Shape := ⟨2, ![2000, 3]⟩
abbrev S2000x256 : Shape := ⟨2, ![2000, 256]⟩
abbrev S512x512 : Shape := ⟨2, ![512, 512]⟩
abbrev S512 : Shape := ⟨1, ![512]⟩
abbrev S256x512 : Shape := ⟨2, ![256, 512]⟩
abbrev S1024x512 : Shape := ⟨2, ![1024, 512]⟩
abbrev S512x32 : Shape := ⟨2, ![512, 32]⟩
abbrev S32 : Shape := ⟨1, ![32]⟩
abbrev S512x1 : Shape := ⟨2, ![512, 1]⟩
abbrev S1 : Shape := ⟨1, ![1]⟩
abbrev S2000x1x3 : Shape := ⟨3, ![2000, 1, 3]⟩
abbrev S1x10000x3 : Shape := ⟨3, ![1, 10000, 3]⟩
abbrev S2000x10000x3 : Shape := ⟨3, ![2000, 10000, 3]⟩
abbrev S_ : Shape := ⟨0, ![]⟩
abbrev S2000x10000 : Shape := ⟨2, ![2000, 10000]⟩
abbrev S2000x8 : Shape := ⟨2, ![2000, 8]⟩
abbrev S2000x8x1 : Shape := ⟨3, ![2000, 8, 1]⟩
abbrev S1x1x1 : Shape := ⟨3, ![1, 1, 1]⟩
abbrev S2000x8x256 : Shape := ⟨3, ![2000, 8, 256]⟩
abbrev S2000x512 : Shape := ⟨2, ![2000, 512]⟩
abbrev S1x1x3 : Shape := ⟨3, ![1, 1, 3]⟩
abbrev S1x10000 : Shape := ⟨2, ![1, 10000]⟩
abbrev S1x16 : Shape := ⟨2, ![1, 16]⟩
abbrev S1x16x1 : Shape := ⟨3, ![1, 16, 1]⟩
abbrev S1x16x256 : Shape := ⟨3, ![1, 16, 256]⟩
abbrev S1x1 : Shape := ⟨2, ![1, 1]⟩
abbrev S1x256 : Shape := ⟨2, ![1, 256]⟩
abbrev S1x512 : Shape := ⟨2, ![1, 512]⟩
abbrev S1024 : Shape := ⟨1, ![1024]⟩

abbrev nBuf : Space → Nat
  | .hbm => 211
  | .vmem => 0
  | .smem => 0
  | _ => 0

abbrev hbmTy0_0 (i : Nat) : BufTy := match i % 128 with
  | 0 => ⟨S1x3, .f32⟩
  | 1 => ⟨S10000x3, .f32⟩
  | 2 => ⟨S10000x256, .f32⟩
  | 3 => ⟨S2000x3, .f32⟩
  | 4 => ⟨S2000x256, .f32⟩
  | 5 => ⟨S512x512, .f32⟩
  | 6 => ⟨S512, .f32⟩
  | 7 => ⟨S512x512, .f32⟩
  | 8 => ⟨S512, .f32⟩
  | 9 => ⟨S256x512, .f32⟩
  | 10 => ⟨S512, .f32⟩
  | 11 => ⟨S1024x512, .f32⟩
  | 12 => ⟨S512, .f32⟩
  | 13 => ⟨S512x32, .f32⟩
  | 14 => ⟨S32, .f32⟩
  | 15 => ⟨S512x512, .f32⟩
  | 16 => ⟨S512, .f32⟩
  | 17 => ⟨S512x1, .f32⟩
  | 18 => ⟨S1, .f32⟩
  | 19 => ⟨S2000x1x3, .f32⟩
  | 20 => ⟨S1x10000x3, .f32⟩
  | 21 => ⟨S2000x10000x3, .f32⟩
  | 22 => ⟨S2000x10000x3, .f32⟩
  | 23 => ⟨S2000x10000x3, .f32⟩
  | 24 => ⟨S2000x10000x3, .f32⟩
  | 25 => ⟨S_, .f32⟩
  | 26 => ⟨S2000x10000, .f32⟩
  | 27 => ⟨S2000x10000, .f32⟩
  | 28 => ⟨S2000x8, .f32⟩
  | 29 => ⟨S2000x8, .i32⟩
  | 30 => ⟨S_, .i32⟩
  | 31 => ⟨S2000x8, .i32⟩
  | 32 => ⟨S2000x8, .i1⟩
  | 33 => ⟨S_, .i32⟩
  | 34 => ⟨S2000x8, .i32⟩
  | 35 => ⟨S2000x8, .i32⟩
  | 36 => ⟨S2000x8, .i32⟩
  | 37 => ⟨S2000x8x1, .i32⟩
  | 38 => ⟨S1, .i32⟩
  | 39 => ⟨S_, .i32⟩
  | 40 => ⟨S2000x8x1, .i32⟩
  | 41 => ⟨S2000x8x1, .i1⟩
  | 42 => ⟨S1x1x1, .i32⟩
  | 43 => ⟨S2000x8x1, .i32⟩
  | 44 => ⟨S2000x8x1, .i1⟩
  | 45 => ⟨S2000x8x1, .i1⟩
  | 46 => ⟨S_, .i1⟩
  | 47 => ⟨S2000x8, .i1⟩
  | 48 => ⟨S2000x8x256, .f32⟩
  | 49 => ⟨S2000x8x256, .i1⟩
  | 50 => ⟨S_, .f32⟩
  | 51 => ⟨S2000x8x256, .f32⟩
  | 52 => ⟨S2000x8x256, .f32⟩
  | 53 => ⟨S_, .f32⟩
  | 54 => ⟨S2000x256, .f32⟩
  | 55 => ⟨S_, .f32⟩
  | 56 => ⟨S2000x256, .f32⟩
  | 57 => ⟨S2000x256, .f32⟩
  | 58 => ⟨S2000x512, .f32⟩
  | 59 => ⟨S_, .f32⟩
  | 60 => ⟨S512, .f32⟩
  | 61 => ⟨S_, .f32⟩
  | 62 => ⟨S512, .f32⟩
  | 63 => ⟨S512, .f32⟩
  | 64 => ⟨S512, .f32⟩
  | 65 => ⟨S512, .f32⟩
  | 66 => ⟨S_, .f32⟩
  | 67 => ⟨S512, .f32⟩
  | 68 => ⟨S512, .f32⟩
  | 69 => ⟨S512, .f32⟩
  | 70 => ⟨S512, .f32⟩
  | 71 => ⟨S512, .i1⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S_, .f32⟩
  | 81 => ⟨S_, .f32⟩
  | 82 => ⟨S_, .f32⟩
  | 83 => ⟨S512, .f32⟩
  | 84 => ⟨S512, .f32⟩
  | 85 => ⟨S512, .f32⟩
  | 86 => ⟨S512, .f32⟩
  | 87 => ⟨S1x1x3, .f32⟩
  | 88 => ⟨S1x10000x3, .f32⟩
  | 89 => ⟨S1x10000x3, .f32⟩
  | 90 => ⟨S1x10000x3, .f32⟩
  | 91 => ⟨S1x10000x3, .f32⟩
  | 92 => ⟨S_, .f32⟩
  | 93 => ⟨S1x10000, .f32⟩
  | 94 => ⟨S1x10000, .f32⟩
  | 95 => ⟨S1x16, .f32⟩
  | 96 => ⟨S1x16, .i32⟩
  | 97 => ⟨S_, .i32⟩
  | 98 => ⟨S1x16, .i32⟩
  | 99 => ⟨S1x16, .i1⟩
  | 100 => ⟨S_, .i32⟩
  | 101 => ⟨S1x16, .i32⟩
  | 102 => ⟨S1x16, .i32⟩
  | 103 => ⟨S1x16, .i32⟩
  | 104 => ⟨S1x16x1, .i32⟩
  | 105 => ⟨S1, .i32⟩
  | 106 => ⟨S_, .i32⟩
  | 107 => ⟨S1x16x1, .i32⟩
  | 108 => ⟨S1x16x1, .i1⟩
  | 109 => ⟨S1x1x1, .i32⟩
  | 110 => ⟨S1x16x1, .i32⟩
  | 111 => ⟨S1x16x1, .i1⟩
  | 112 => ⟨S1x16x1, .i1⟩
  | 113 => ⟨S_, .i1⟩
  | 114 => ⟨S1x16, .i1⟩
  | 115 => ⟨S1x16x256, .f32⟩
  | 116 => ⟨S1x16x256, .i1⟩
  | 117 => ⟨S_, .f32⟩
  | 118 => ⟨S1x16x256, .f32⟩
  | 119 => ⟨S1x16x256, .f32⟩
  | 120 => ⟨S_, .f32⟩
  | 121 => ⟨S1, .f32⟩
  | 122 => ⟨S_, .f32⟩
  | 123 => ⟨S1, .f32⟩
  | 124 => ⟨S1, .f32⟩
  | 125 => ⟨S1x1, .f32⟩
  | 126 => ⟨S1x16, .f32⟩
  | 127 => ⟨S1x16, .f32⟩
  | _ => ⟨S1x3, .f32⟩

abbrev hbmTy0_1 (i : Nat) : BufTy := match i % 128 with
  | 0 => ⟨S1x16, .f32⟩
  | 1 => ⟨S_, .f32⟩
  | 2 => ⟨S1, .f32⟩
  | 3 => ⟨S1x1, .f32⟩
  | 4 => ⟨S1x16, .f32⟩
  | 5 => ⟨S1x16, .f32⟩
  | 6 => ⟨S1x16x1, .f32⟩
  | 7 => ⟨S1x16x256, .f32⟩
  | 8 => ⟨S1x16x256, .f32⟩
  | 9 => ⟨S_, .f32⟩
  | 10 => ⟨S1x256, .f32⟩
  | 11 => ⟨S1x512, .f32⟩
  | 12 => ⟨S1x512, .f32⟩
  | 13 => ⟨S1x512, .f32⟩
  | 14 => ⟨S512, .f32⟩
  | 15 => ⟨S1024, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S512, .f32⟩
  | 23 => ⟨S512, .i1⟩
  | 24 => ⟨S512, .f32⟩
  | 25 => ⟨S512, .f32⟩
  | 26 => ⟨S512, .f32⟩
  | 27 => ⟨S512, .f32⟩
  | 28 => ⟨S512, .f32⟩
  | 29 => ⟨S512, .f32⟩
  | 30 => ⟨S512, .f32⟩
  | 31 => ⟨S512, .f32⟩
  | 32 => ⟨S_, .f32⟩
  | 33 => ⟨S_, .f32⟩
  | 34 => ⟨S_, .f32⟩
  | 35 => ⟨S512, .f32⟩
  | 36 => ⟨S512, .f32⟩
  | 37 => ⟨S32, .f32⟩
  | 38 => ⟨S32, .f32⟩
  | 39 => ⟨S_, .f32⟩
  | 40 => ⟨S_, .f32⟩
  | 41 => ⟨S_, .f32⟩
  | 42 => ⟨S_, .f32⟩
  | 43 => ⟨S1, .f32⟩
  | 44 => ⟨S32, .f32⟩
  | 45 => ⟨S32, .f32⟩
  | 46 => ⟨S32, .f32⟩
  | 47 => ⟨S_, .f32⟩
  | 48 => ⟨S_, .f32⟩
  | 49 => ⟨S1, .f32⟩
  | 50 => ⟨S32, .f32⟩
  | 51 => ⟨S32, .f32⟩
  | 52 => ⟨S512, .f32⟩
  | 53 => ⟨S512, .f32⟩
  | 54 => ⟨S_, .f32⟩
  | 55 => ⟨S512, .f32⟩
  | 56 => ⟨S512, .f32⟩
  | 57 => ⟨S512, .f32⟩
  | 58 => ⟨S512, .f32⟩
  | 59 => ⟨S512, .i1⟩
  | 60 => ⟨S512, .f32⟩
  | 61 => ⟨S512, .f32⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S_, .f32⟩
  | 69 => ⟨S_, .f32⟩
  | 70 => ⟨S_, .f32⟩
  | 71 => ⟨S512, .f32⟩
  | 72 => ⟨S512, .f32⟩
  | 73 => ⟨S1, .f32⟩
  | 74 => ⟨S1, .f32⟩
  | 75 => ⟨S1, .f32⟩
  | 76 => ⟨S1, .f32⟩
  | 77 => ⟨S_, .f32⟩
  | 78 => ⟨S1, .f32⟩
  | 79 => ⟨S1, .f32⟩
  | 80 => ⟨S_, .f32⟩
  | 81 => ⟨S1, .f32⟩
  | 82 => ⟨S1, .f32⟩
  | _ => ⟨S1x3, .f32⟩

abbrev hbmTy (i : Nat) : BufTy := match i / 128 with
  | 0 => hbmTy0_0 i
  | 1 => hbmTy0_1 i
  | _ => ⟨S1x3, .f32⟩

abbrev bufTy : (tb : Table) → Fin (tcTables nBuf tb) → BufTy
  | .hbm, ⟨i, _⟩ => hbmTy i
  | _, _ => ⟨S1x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_values : Ref sig .tc := ⟨.hbm, 28, rfl⟩
abbrev main_indices : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v8 : Ref sig .tc := ⟨.hbm, 52, rfl⟩
abbrev main_cst_0 : Ref sig .tc := ⟨.hbm, 53, rfl⟩
abbrev main_v9 : Ref sig .tc := ⟨.hbm, 54, rfl⟩
abbrev main_cst_1 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_cst_2 : Ref sig .tc := ⟨.hbm, 59, rfl⟩
abbrev main_v13 : Ref sig .tc := ⟨.hbm, 60, rfl⟩
abbrev main_cst_3 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v18 : Ref sig .tc := ⟨.hbm, 79, rfl⟩
abbrev main_cst_4 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst_5 : Ref sig .tc := ⟨.hbm, 92, rfl⟩
abbrev main_v30 : Ref sig .tc := ⟨.hbm, 93, rfl⟩
abbrev main_v31 : Ref sig .tc := ⟨.hbm, 94, rfl⟩
abbrev main_values_6 : Ref sig .tc := ⟨.hbm, 95, rfl⟩
abbrev main_indices_7 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v32 : Ref sig .tc := ⟨.hbm, 119, rfl⟩
abbrev main_cst_8 : Ref sig .tc := ⟨.hbm, 120, rfl⟩
abbrev main_v33 : Ref sig .tc := ⟨.hbm, 121, rfl⟩
abbrev main_cst_9 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_cst_10 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_cst_11 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_v55 : Ref sig .tc := ⟨.hbm, 159, rfl⟩
abbrev main_cst_12 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_cst_13 : Ref sig .tc := ⟨.hbm, 167, rfl⟩
abbrev main_v62 : Ref sig .tc := ⟨.hbm, 168, rfl⟩
abbrev main_cst_14 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_cst_15 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_v74 : Ref sig .tc := ⟨.hbm, 195, rfl⟩
abbrev main_cst_16 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_cst_17 : Ref sig .tc := ⟨.hbm, 205, rfl⟩
abbrev main_v83 : Ref sig .tc := ⟨.hbm, 206, rfl⟩
abbrev main_v84 : Ref sig .tc := ⟨.hbm, 207, rfl⟩
abbrev main_cst_18 : Ref sig .tc := ⟨.hbm, 208, rfl⟩
abbrev main_v85 : Ref sig .tc := ⟨.hbm, 209, rfl⟩
abbrev main_v86 : Ref sig .tc := ⟨.hbm, 210, rfl⟩

abbrev nD : Nat := 1
abbrev τ : Topo := Topo.v7x

variable {F : FTy → Type} [FloatOps F]
-- ==== Proof.Consts.lean ====
/- The constants' values on the extended reals. -/
module

public import Idealize.ShloMosaic.Lib.Pointwise

@[expose] public section

noncomputable section

open Idealize.ShloMosaic

namespace Knn

/-- The 16-bit pattern `0x7F80` is `⊤`. -/
theorem ofBits_top_bf16 : Ideal.ofBits .bf16 0x7F80#16 = ⊤ := by simp [Ideal.ofBits, Ideal.ieee]

/-- The 32-bit pattern `0x7F800000` is `⊤`. -/
theorem ofBits_top_f32 : Ideal.ofBits .f32 0x7F800000#32 = ⊤ := by simp [Ideal.ofBits, Ideal.ieee]

/-- The 32-bit pattern `0xFF800000` is `⊥`. -/
theorem ofBits_bot_f32 : Ideal.ofBits .f32 0xFF800000#32 = ⊥ := by simp [Ideal.ofBits, Ideal.ieee]

/-- The 32-bit pattern of two. -/
theorem ofBits_two_f32 : Ideal.ofBits .f32 0x40000000#32 = ((2 : ℝ) : EReal) := by
  simp [Ideal.ofBits, Ideal.ieee, -EReal.coe_mul]; norm_num

/-- The 32-bit pattern of eight. -/
theorem ofBits_8_f32 : Ideal.ofBits .f32 0x41000000#32 = ((8 : ℝ) : EReal) := by
  simp [Ideal.ofBits, Ideal.ieee, -EReal.coe_mul]; norm_num

/-- The 32-bit pattern of two thousand. -/
theorem ofBits_2000_f32 : Ideal.ofBits .f32 0x44FA0000#32 = ((2000 : ℝ) : EReal) := by
  simp [Ideal.ofBits, Ideal.ieee, -EReal.coe_mul]; norm_num

/-- The 32-bit pattern of sixteen thousand. -/
theorem ofBits_16000_f32 : Ideal.ofBits .f32 0x467A0000#32 = ((16000 : ℝ) : EReal) := by
  simp [Ideal.ofBits, Ideal.ieee, -EReal.coe_mul]; norm_num

/-- The 32-bit pattern of a million. -/
theorem ofBits_million_f32 : Ideal.ofBits .f32 0x49742400#32 = ((1000000 : ℝ) : EReal) := by
  simp [Ideal.ofBits, Ideal.ieee, -EReal.coe_mul]; norm_num

/-- The logarithm of two. -/
theorem log_two : Ideal.log (Ideal.ofBits .f32 0x40000000#32) = ((Real.log 2 : ℝ) : EReal) := by
  rw [ofBits_two_f32, Ideal.log_coe, if_neg (by norm_num)]

end Knn

end
-- ==== Proof.Rank.lean ====
/- Selection of the `K` nearest among `n` atoms, stated on extended-real distances: the order by distance and then by
   index, the rank of an atom in it, and the two marking rounds of the kernel (one round overwrites the nearest unmarked
   atom's distance by `⊤`). After `k` rounds exactly the atoms of rank below `k` are marked. -/
module

public import Idealize.ShloMosaic.Lib.Pointwise

@[expose] public section

noncomputable section

open Classical

namespace Knn

variable {n : ℕ}

/-- Atom `i` comes before atom `j`: it is nearer, or equally near and of smaller index. -/
def Before (d : Fin n → EReal) (i j : Fin n) : Prop := d i < d j ∨ (d i = d j ∧ i < j)

/-- How many atoms come before atom `j`. -/
def rank (d : Fin n → EReal) (j : Fin n) : ℕ := (Finset.univ.filter fun i => Before d i j).card

/-- No atom comes before itself. -/
theorem before_irrefl (d : Fin n → EReal) (i : Fin n) : ¬ Before d i i := by
  rintro (h | ⟨-, h⟩)
  · exact lt_irrefl _ h
  · exact lt_irrefl _ h

/-- The order is transitive. -/
theorem before_trans (d : Fin n → EReal) {i j k : Fin n} (h : Before d i j) (h' : Before d j k) : Before d i k := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

/-- Of two different atoms one comes before the other. -/
theorem before_total (d : Fin n → EReal) {i j : Fin n} (h : i ≠ j) : Before d i j ∨ Before d j i := by
  rcases lt_trichotomy (d i) (d j) with hd | hd | hd
  · exact .inl (.inl hd)
  · rcases lt_or_gt_of_ne h with hl | hl
    · exact .inl (.inr ⟨hd, hl⟩)
    · exact .inr (.inr ⟨hd.symm, hl⟩)
  · exact .inr (.inl hd)

/-- An atom that comes before another has the smaller rank. -/
theorem rank_lt_rank (d : Fin n → EReal) {i j : Fin n} (h : Before d i j) : rank d i < rank d j := by
  refine Finset.card_lt_card ⟨fun k hk => ?_, fun hs => ?_⟩
  · simp only [Finset.mem_filter, Finset.mem_univ, true_and] at hk ⊢
    exact before_trans d hk h
  · have := hs (Finset.mem_filter.2 ⟨Finset.mem_univ i, h⟩)
    exact before_irrefl d i (Finset.mem_filter.1 this).2

/-- Ranks are below the number of atoms. -/
theorem rank_lt (d : Fin n → EReal) (j : Fin n) : rank d j < n := by
  have h : (Finset.univ.filter fun i => Before d i j) ⊂ Finset.univ :=
    Finset.filter_ssubset.2 ⟨j, Finset.mem_univ j, before_irrefl d j⟩
  have h' := Finset.card_lt_card h
  rw [Finset.card_univ, Fintype.card_fin] at h'
  exact h'

/-- Two atoms of one rank are the same atom. -/
theorem rank_inj (d : Fin n → EReal) {i j : Fin n} (h : rank d i = rank d j) : i = j := by
  by_contra hne
  rcases before_total d hne with hb | hb
  · exact absurd h (rank_lt_rank d hb).ne
  · exact absurd h (rank_lt_rank d hb).ne'

/-- Smaller rank means it comes before. -/
theorem before_of_rank_lt (d : Fin n → EReal) {i j : Fin n} (h : rank d i < rank d j) : Before d i j := by
  have hne : i ≠ j := fun e => by subst e; exact lt_irrefl _ h
  rcases before_total d hne with hb | hb
  · exact hb
  · exact absurd (rank_lt_rank d hb) (by omega)

/-- Every rank below the number of atoms is taken. -/
theorem exists_rank (d : Fin n → EReal) {k : ℕ} (hk : k < n) : ∃ j, rank d j = k := by
  have hinj : Function.Injective (fun j : Fin n => (⟨rank d j, rank_lt d j⟩ : Fin n)) :=
    fun a b hab => rank_inj d (Fin.mk.inj hab)
  obtain ⟨j, hj⟩ := (Finite.injective_iff_surjective.1 hinj) ⟨k, hk⟩
  exact ⟨j, congrArg Fin.val hj⟩

/-- The distances with the atoms of rank below `k` marked by `⊤`. -/
def marked (d : Fin n → EReal) (k : ℕ) (j : Fin n) : EReal := if rank d j < k then ⊤ else d j

/-- With no atom marked these are the distances. -/
theorem marked_zero (d : Fin n → EReal) : marked d 0 = d := by
  funext j; simp [marked]

/-- Among finite distances, marked means of rank below `k`. -/
theorem marked_eq_top (d : Fin n → EReal) (hd : ∀ j, d j ≠ ⊤) (k : ℕ) (j : Fin n) :
    marked d k j = ⊤ ↔ rank d j < k := by
  unfold marked; split
  · simp [*]
  · simp [*, hd j]

/-- One more mark: the atom of rank `k` is overwritten, the others stay. -/
theorem marked_succ (d : Fin n → EReal) {k : ℕ} {j₀ : Fin n} (h₀ : rank d j₀ = k) (j : Fin n) :
    (if j = j₀ then ⊤ else marked d k j) = marked d (k + 1) j := by
  unfold marked
  by_cases hj : j = j₀
  · subst hj; simp [h₀]
  · have : rank d j ≠ k := fun h => hj (rank_inj d (h.trans h₀.symm))
    simp only [hj, if_false]
    by_cases hl : rank d j < k
    · simp [hl, Nat.lt_succ_of_lt hl]
    · have : ¬ rank d j < k + 1 := by omega
      simp [hl, this]

/-- The least of the distances not yet marked is that of the atom of rank `k`; the atoms at that least distance are not
    marked and none has a smaller index. -/
theorem marked_min (d : Fin n → EReal) (hd : ∀ j, d j ≠ ⊤) {k : ℕ} {j₀ : Fin n} (h₀ : rank d j₀ = k) {v : Fin n → EReal}
    (hv : ∀ j, v j = marked d k j) {μ : EReal} (hle : ∀ j, μ ≤ v j) (hat : ∃ j, μ = v j) :
    μ = d j₀ ∧ v j₀ = μ ∧ ∀ j, v j = μ → j₀ ≤ j := by
  have hv0 : v j₀ = d j₀ := by rw [hv]; simp [marked, h₀]
  have hge : ∀ j, d j₀ ≤ v j := by
    intro j
    rw [hv]; unfold marked; split
    · exact le_top
    · rename_i hr
      by_contra hlt
      have := rank_lt_rank d (i := j) (j := j₀) (.inl (not_le.1 hlt))
      omega
  have hμ : μ = d j₀ := by
    obtain ⟨j, hj⟩ := hat
    exact le_antisymm (hv0 ▸ hle j₀) (hj ▸ hge j)
  refine ⟨hμ, hv0.trans hμ.symm, fun j hj => ?_⟩
  by_contra hlt
  rw [hv, hμ] at hj
  unfold marked at hj
  split at hj
  · exact hd j₀ hj.symm
  · rename_i hr
    have := rank_lt_rank d (i := j) (j := j₀) (.inr ⟨hj, not_le.1 hlt⟩)
    omega

/-- ONE ROUND BY A KEY. The least distance, then among the atoms at it the least of an increasing finite key, then the
    atom with that key overwritten by `⊤`: the marks advance by one. -/
theorem round_key (d : Fin n → EReal) (hd : ∀ j, d j ≠ ⊤) {k : ℕ} (hk : k < n) {v : Fin n → EReal}
    (hv : ∀ j, v j = marked d k j) (key : Fin n → EReal) (hmono : StrictMono key) (hfin : ∀ j, key j ≠ ⊤)
    {μ ν : EReal} (hle : ∀ j, μ ≤ v j) (hat : ∃ j, μ = v j)
    (hle' : ∀ j, ν ≤ (if v j = μ then key j else ⊤)) (hat' : ∃ j, ν = if v j = μ then key j else ⊤) (j : Fin n) :
    (if (if v j = μ then key j else ⊤) = ν then ⊤ else v j) = marked d (k + 1) j := by
  obtain ⟨j₀, h₀⟩ := exists_rank d hk
  obtain ⟨-, hv0, hmin⟩ := marked_min d hd h₀ hv hle hat
  have hν : ν = key j₀ := by
    refine le_antisymm (by simpa [hv0] using hle' j₀) ?_
    obtain ⟨i, hi⟩ := hat'
    rw [hi]; split
    · exact hmono.monotone (hmin i ‹_›)
    · exact le_top
  have hiff : ((if v j = μ then key j else ⊤) = ν) ↔ j = j₀ := by
    constructor
    · intro h
      rw [hν] at h
      split at h
      · exact hmono.injective h
      · exact absurd h.symm (hfin j₀)
    · rintro rfl; simp [hv0, hν]
  rw [← marked_succ d h₀ j, ← hv j]
  by_cases hj : j = j₀
  · rw [if_pos (hiff.2 hj), if_pos hj]
  · rw [if_neg (fun h => hj (hiff.1 h)), if_neg hj]

/-- ONE ROUND BY THE INDEX. The least distance, then the least index at it, then that atom overwritten by `⊤`: the marks
    advance by one. -/
theorem round_index (d : Fin n → EReal) (hd : ∀ j, d j ≠ ⊤) {k : ℕ} (hk : k < n) {v : Fin n → EReal}
    (hv : ∀ j, v j = marked d k j) {μ : EReal} (hle : ∀ j, μ ≤ v j) (hat : ∃ j, μ = v j)
    {p : Fin n} (hp : v p = μ) (hpmin : ∀ j, v j = μ → p ≤ j) (j : Fin n) :
    (if j = p then ⊤ else v j) = marked d (k + 1) j := by
  obtain ⟨j₀, h₀⟩ := exists_rank d hk
  obtain ⟨-, hv0, hmin⟩ := marked_min d hd h₀ hv hle hat
  have : p = j₀ := le_antisymm (hpmin j₀ hv0) (hmin p hp)
  subst this
  rw [← marked_succ d h₀ j, ← hv j]

/-- A sum over the `K` atoms of ranks `0 … K-1` is the sum over all atoms of the summand where the rank is below `K`. -/
theorem sum_of_rank {M : Type*} [AddCommMonoid M] (d : Fin n → EReal) {K : ℕ} (hK : K ≤ n) (τ : Fin K → Fin n)
    (hτ : ∀ k, rank d (τ k) = k) (f : Fin n → M) :
    ∑ k, f (τ k) = ∑ j, if rank d j < K then f j else 0 := by
  rw [← Finset.sum_filter]
  refine Finset.sum_bij (fun k _ => τ k) (fun k _ => ?_) (fun a _ b _ h => ?_) (fun j hj => ?_) (fun _ _ => rfl)
  · simp [hτ]
  · exact Fin.ext (by rw [← hτ a, ← hτ b, h])
  · have hj' := (Finset.mem_filter.1 hj).2
    exact ⟨⟨rank d j, hj'⟩, Finset.mem_univ _, rank_inj d (hτ _)⟩

/-- `N` atoms of which those from `n` on are all farther than each of the first `n`: a first atom keeps its rank, a later
    one has rank at least `n`. -/
theorem rank_pad {N : ℕ} (hn : n ≤ N) (d : Fin n → EReal) (D : Fin N → EReal)
    (hlo : ∀ j : Fin n, D (j.castLE hn) = d j)
    (hpad : ∀ (i : Fin n) (j : Fin N), n ≤ j.val → d i < D j) :
    (∀ j : Fin n, rank D (j.castLE hn) = rank d j) ∧ ∀ j : Fin N, n ≤ j.val → n ≤ rank D j := by
  constructor
  · intro j
    unfold rank
    refine (Finset.card_bij (fun (i : Fin n) _ => i.castLE hn) (fun i hi => ?_) (fun a _ b _ h => ?_) (fun i hi => ?_)).symm
    · simp only [Finset.mem_filter, Finset.mem_univ, true_and] at hi ⊢
      unfold Before at *
      rw [hlo, hlo]
      exact hi
    · exact Fin.castLE_injective hn h
    · simp only [Finset.mem_filter, Finset.mem_univ, true_and] at hi
      have hi' : i.val < n := by
        by_contra hc
        have hp := hpad j i (not_lt.1 hc)
        unfold Before at hi
        rw [hlo] at hi
        rcases hi with hi | ⟨hi, -⟩
        · exact lt_asymm hi hp
        · exact hp.ne' hi
      refine ⟨⟨i.val, hi'⟩, ?_, Fin.ext rfl⟩
      simp only [Finset.mem_filter, Finset.mem_univ, true_and]
      have e : i = (⟨i.val, hi'⟩ : Fin n).castLE hn := Fin.ext rfl
      unfold Before at *
      rw [e, hlo, hlo] at hi
      exact hi
  · intro j hj
    unfold rank
    have : (Finset.univ : Finset (Fin n)).card ≤ (Finset.univ.filter fun i => Before D i j).card := by
      refine Finset.card_le_card_of_injOn (fun i : Fin n => i.castLE hn) (fun i _ => ?_) (fun a _ b _ h => ?_)
      · simp only [Finset.coe_filter, Finset.mem_univ, true_and, Set.mem_setOf_eq]
        exact .inl (by rw [hlo]; exact hpad i j hj)
      · exact Fin.castLE_injective hn h
    rwa [Finset.card_univ, Fintype.card_fin] at this

end Knn

end
-- ==== Proof.KCounts.lean ====
/- The counting kernel's block, read by its mathematics: eight marking rounds on the block of distances, then, per atom,
   the number of rows of the block in which the atom's rank is below eight. -/
module

public import proofs.«01_k».proof.Proof.Consts
public import proofs.«01_k».proof.Proof.Gen.KernelIdeal.Skeleton
public import proofs.«01_k».proof.Proof.Rank
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Knn

/-- A minimum folded from `⊤` is at most every entry. -/
theorem fold_min_le {ι : Type*} [Fintype ι] (f : ι → EReal) (i : ι) : Finset.univ.fold min ⊤ f ≤ f i :=
  ((Finset.le_fold_min (s := Finset.univ) (f := f) (b := ⊤) _).1 le_rfl).2 i (Finset.mem_univ i)

/-- A minimum folded from `⊤` over a nonempty range is one of the entries. -/
theorem fold_min_mem {ι : Type*} [Fintype ι] [Nonempty ι] (f : ι → EReal) : ∃ i, Finset.univ.fold min ⊤ f = f i := by
  rcases (Finset.fold_min_le (s := Finset.univ) (f := f) (b := ⊤) (Finset.univ.fold min ⊤ f)).1 le_rfl with h | ⟨i, -, h⟩
  · obtain ⟨i⟩ := ‹Nonempty ι›
    exact ⟨i, le_antisymm (fold_min_le f i) (le_top.trans h)⟩
  · exact ⟨i, le_antisymm (fold_min_le f i) h⟩

/-- The row minimum of a block, repeated along the row. -/
def rowMin (v : FVec Ideal S400x10112 .bf16) : FVec Ideal S400x10112 .bf16 :=
  broadcastTo S400x10112 (shapeCast S400x1 (multiReduction .minimumf [1] S400 v 0x7F80#16 reduces_S400x10112_S400 (.inr rfl) rfl)
    shapeCasts_S400_S400x1) broadcasts_S400x1_S400x10112

/-- The key row where the block is at its row minimum, `⊤` elsewhere. -/
def keyed (lo : FVec Ideal S1x10112 .bf16) (v : FVec Ideal S400x10112 .bf16) : FVec Ideal S400x10112 .bf16 :=
  select (cmpf .oeq v (rowMin v))
    (broadcastTo S400x10112 (shapeCast S1x10112 lo shapeCasts_S1x10112_S1x10112) broadcasts_S1x10112_S400x10112)
    (broadcast S400x10112 (Scalar.ofBits (F := Ideal) .bf16 0x7F80#16))

/-- One marking round on the block. -/
def round8 (lo : FVec Ideal S1x10112 .bf16) (v : FVec Ideal S400x10112 .bf16) : FVec Ideal S400x10112 .bf16 :=
  select (cmpf .oeq (keyed lo v) (rowMin (keyed lo v))) (broadcast S400x10112 (Scalar.ofBits (F := Ideal) .bf16 0x7F80#16)) v

/-- The block of squared distances as the kernel computes them, by the expanded square. -/
def dist8 (l : FVec Ideal S400x3 .f32) (p : FVec Ideal S3x10112 .f32) : FVec Ideal S400x10112 .bf16 :=
  truncf .bf16 (subf
    (addf
      (broadcastTo S400x10112 (shapeCast S400x1 (multiReduction .add [1] S400 (mulf l l) 0x00000000#32 reduces_S400x3_S400 (.inl rfl) rfl)
        shapeCasts_S400_S400x1) broadcasts_S400x1_S400x10112)
      (broadcastTo S400x10112 (shapeCast S1x10112 (multiReduction .add [0] S10112
          (mulf (shapeCast S3x10112 p shapeCasts_S3x10112_S3x10112) (shapeCast S3x10112 p shapeCasts_S3x10112_S3x10112)) 0x00000000#32
          reduces_S3x10112_S10112 (.inl rfl) rfl) shapeCasts_S10112_S1x10112) broadcasts_S1x10112_S400x10112))
    (addf
      (matmul dot_S400x3_S3x10112_S400x10112_1_0_0_1_n_n none l (shapeCast S3x10112 p shapeCasts_S3x10112_S3x10112)
        (constant S400x10112 .f32 0x00000000#32))
      (matmul dot_S400x3_S3x10112_S400x10112_1_0_0_1_n_n none l (shapeCast S3x10112 p shapeCasts_S3x10112_S3x10112)
        (constant S400x10112 .f32 0x00000000#32)))) bitsLt_bf16_f32

/-- Per atom, the number of rows of a block holding `⊤` there. -/
def tops (v : FVec Ideal S400x10112 .bf16) : FVec Ideal S1x10112 .f32 :=
  shapeCast S1x10112 (multiReduction .add [0] S10112
    (sitofp .f32 (extui 32 (cmpf .oeq v (broadcast S400x10112 (Scalar.ofBits (F := Ideal) .bf16 0x7F80#16))) natLt_1_32) : FVec Ideal S400x10112 .f32)
    0x00000000#32 reduces_S400x10112_S10112 (.inl rfl) rfl) shapeCasts_S10112_S1x10112

/-- The first part of the block's value: the distances and one round. -/
theorem pay3_eq (l : FVec Ideal S400x3 .f32) (p : FVec Ideal S3x10112 .f32) (lo : FVec Ideal S1x10112 .bf16) :
    k0_pay3 l p lo = round8 (k0_pay2 lo) (dist8 l p) := by
  unfold k0_pay3 round8 keyed rowMin dist8; rfl

/-- The second round's keyed block. -/
theorem pay4_eq (l : FVec Ideal S400x3 .f32) (p : FVec Ideal S3x10112 .f32) (lo : FVec Ideal S1x10112 .bf16) :
    k0_pay4 l p lo = keyed (k0_pay2 lo) (k0_pay3 l p lo) := by
  unfold k0_pay4 keyed rowMin; rfl

/-- The second round's least key, repeated along the row. -/
theorem pay5_eq (l : FVec Ideal S400x3 .f32) (p : FVec Ideal S3x10112 .f32) (lo : FVec Ideal S1x10112 .bf16) :
    k0_pay5 l p lo = rowMin (k0_pay4 l p lo) := by
  unfold k0_pay5 rowMin; rfl

/-- The end of the second round and three more. -/
theorem pay6_eq (lo : FVec Ideal S1x10112 .bf16) (v w x : FVec Ideal S400x10112 .bf16) :
    k0_pay6 lo v w x = round8 lo (round8 lo (round8 lo
      (select (cmpf .oeq w x) (broadcast S400x10112 (Scalar.ofBits (F := Ideal) .bf16 0x7F80#16)) v))) := by
  unfold k0_pay6 round8 keyed rowMin; rfl

/-- The last three rounds and the count. -/
theorem pay8_eq (lo : FVec Ideal S1x10112 .bf16) (v w x y : FVec Ideal S400x10112 .bf16) :
    k0_pay8 lo (k0_pay6 lo v w x) (k0_pay7 lo v w x) = tops (round8 lo (round8 lo (round8 lo (k0_pay6 lo v w x)))) := by
  unfold k0_pay8 k0_pay7 tops round8 keyed rowMin; rfl

/-- The kernel's block value is: distances, eight rounds, count. -/
theorem payload_eq (l : FVec Ideal S400x3 .f32) (p : FVec Ideal S3x10112 .f32) (lo : FVec Ideal S1x10112 .bf16) :
    k0_pay8 (k0_pay2 lo) (k0_pay6 (k0_pay2 lo) (k0_pay3 l p lo) (k0_pay4 l p lo) (k0_pay5 l p lo))
        (k0_pay7 (k0_pay2 lo) (k0_pay3 l p lo) (k0_pay4 l p lo) (k0_pay5 l p lo))
      = tops ((round8 (k0_pay2 lo))^[8] (dist8 l p)) := by
  rw [pay8_eq _ _ _ _ (dist8 l p), pay6_eq, pay5_eq, pay4_eq]
  change tops (round8 _ (round8 _ (round8 _ (round8 _ (round8 _ (round8 _ (round8 (k0_pay2 lo) (k0_pay3 l p lo)))))))) = _
  rw [pay3_eq]
  simp only [Function.iterate_succ, Function.iterate_zero, Function.comp, id]

/-- A row minimum, read at an entry. -/
theorem rowMin_apply (v : FVec Ideal S400x10112 .bf16) (r : Fin 400) (j : Fin 10112) :
    rowMin v (ix2 r j) = Finset.univ.fold min ⊤ fun k : Fin 10112 => v (ix2 r k) := by
  pointwise [rowMin]
  exact congrArg (fun b => Finset.univ.fold min b fun k : Fin 10112 => v (ix2 r k)) ofBits_top_bf16

/-- The keyed block, read at an entry. -/
theorem keyed_apply (lo : FVec Ideal S1x10112 .bf16) (v : FVec Ideal S400x10112 .bf16) (r : Fin 400) (j : Fin 10112) :
    keyed lo v (ix2 r j) = if v (ix2 r j) = rowMin v (ix2 r j) then lo (ix2 0 j) else ⊤ := by
  have : ∀ x, keyed lo v x = if v x = rowMin v x then lo (ix2 0 (x 1)) else ⊤ := by
    intro x
    pointwise [keyed]
    rw [ofBits_top_bf16]
  exact this _

/-- One round, read at an entry. -/
theorem round8_apply (lo : FVec Ideal S1x10112 .bf16) (v : FVec Ideal S400x10112 .bf16) (r : Fin 400) (j : Fin 10112) :
    round8 lo v (ix2 r j) = if keyed lo v (ix2 r j) = rowMin (keyed lo v) (ix2 r j) then ⊤ else v (ix2 r j) := by
  have : ∀ x, round8 lo v x = if keyed lo v x = rowMin (keyed lo v) x then ⊤ else v x := by
    intro x
    pointwise [round8]
    rw [ofBits_top_bf16]
  exact this _

/-- A truth value counted as a float: one if it holds, zero if not. -/
theorem ofBool_count (c : Prop) [Decidable c] :
    (FloatOps.sitofp (F := Ideal) .f32 (BitVec.setWidth 32 (BitVec.ofBool (decide c))) : EReal) = if c then 1 else 0 := by
  by_cases h : c
  · simp only [h, decide_true, if_true]
    change ((((BitVec.setWidth 32 (BitVec.ofBool true)).toInt : ℤ) : ℝ) : EReal) = 1
    rw [show (BitVec.setWidth 32 (BitVec.ofBool true)).toInt = 1 by decide]
    norm_num
  · simp only [h, decide_false, if_false]
    change ((((BitVec.setWidth 32 (BitVec.ofBool false)).toInt : ℤ) : ℝ) : EReal) = 0
    rw [show (BitVec.setWidth 32 (BitVec.ofBool false)).toInt = 0 by decide]
    norm_num

/-- The count, read at an atom. -/
theorem tops_apply (v : FVec Ideal S400x10112 .bf16) (j : Fin 10112) :
    tops v (ix2 0 j) = ∑ r : Fin 400, if v (ix2 r j) = ⊤ then (1 : EReal) else 0 := by
  pointwise [tops]
  refine Finset.sum_congr rfl fun r _ => ?_
  rw [ofBits_top_bf16, ofBool_count]

/-- One round advances the marks of a row by one. -/
theorem round8_marked (lo : FVec Ideal S1x10112 .bf16) (hmono : StrictMono fun j : Fin 10112 => (lo (ix2 0 j) : EReal))
    (hfin : ∀ j : Fin 10112, lo (ix2 0 j) ≠ (⊤ : EReal)) (v : FVec Ideal S400x10112 .bf16) (r : Fin 400) (d : Fin 10112 → EReal)
    (hd : ∀ j, d j ≠ ⊤) (k : ℕ) (hk : k < 10112) (hv : ∀ j, v (ix2 r j) = marked d k j) (j : Fin 10112) :
    round8 lo v (ix2 r j) = marked d (k + 1) j := by
  haveI : Nonempty (Fin 10112) := ⟨0⟩
  rw [round8_apply, keyed_apply, rowMin_apply]
  have e : (fun k : Fin 10112 => keyed lo v (ix2 r k))
      = fun k : Fin 10112 => if v (ix2 r k) = (Finset.univ.fold min ⊤ fun k : Fin 10112 => v (ix2 r k)) then lo (ix2 0 k) else (⊤ : EReal) := by
    funext k; rw [keyed_apply, rowMin_apply]
  rw [rowMin_apply, e]
  exact round_key d hd hk hv _ hmono hfin (fold_min_le _) (fold_min_mem _) (fold_min_le _) (fold_min_mem _) j

/-- `k` rounds mark the atoms of rank below `k`. -/
theorem rounds_marked (lo : FVec Ideal S1x10112 .bf16) (hmono : StrictMono fun j : Fin 10112 => (lo (ix2 0 j) : EReal))
    (hfin : ∀ j : Fin 10112, lo (ix2 0 j) ≠ (⊤ : EReal)) (v : FVec Ideal S400x10112 .bf16) (r : Fin 400)
    (hd : ∀ j : Fin 10112, v (ix2 r j) ≠ (⊤ : EReal)) (k : ℕ) (hk : k ≤ 10112) :
    ∀ j, ((round8 lo)^[k] v) (ix2 r j) = marked (fun j : Fin 10112 => v (ix2 r j)) k j := by
  induction k with
  | zero => intro j; rw [marked_zero]; rfl
  | succ k ih =>
    rw [Function.iterate_succ_apply']
    exact round8_marked lo hmono hfin _ r _ hd k (by omega) (ih (by omega))

/-- THE BLOCK'S COUNTS: per atom, the number of rows in which its rank is below eight. -/
theorem counts_apply (l : FVec Ideal S400x3 .f32) (p : FVec Ideal S3x10112 .f32) (lo : FVec Ideal S1x10112 .bf16)
    (hmono : StrictMono fun j : Fin 10112 => (lo (ix2 0 j) : EReal)) (hfin : ∀ j : Fin 10112, lo (ix2 0 j) ≠ (⊤ : EReal))
    (hd : ∀ (r : Fin 400) (j : Fin 10112), dist8 l p (ix2 r j) ≠ (⊤ : EReal)) (j : Fin 10112) :
    (k0_pay8 (k0_pay2 lo) (k0_pay6 (k0_pay2 lo) (k0_pay3 l p lo) (k0_pay4 l p lo) (k0_pay5 l p lo))
        (k0_pay7 (k0_pay2 lo) (k0_pay3 l p lo) (k0_pay4 l p lo) (k0_pay5 l p lo)) : FVec Ideal S1x10112 .f32) (ix2 0 j)
      = ∑ r : Fin 400, if rank (fun j : Fin 10112 => dist8 l p (ix2 r j)) j < 8 then (1 : EReal) else 0 := by
  have hlo : ∀ j : Fin 10112, k0_pay2 lo (ix2 0 j) = lo (ix2 0 j) := by
    intro j; pointwise [k0_pay2]
  rw [payload_eq, tops_apply]
  refine Finset.sum_congr rfl fun r _ => ?_
  rw [rounds_marked (k0_pay2 lo) (by simpa only [hlo] using hmono) (by simpa only [hlo] using hfin) _ r (hd r) 8 (by norm_num) j]
  simp only [marked_eq_top _ (hd r)]

/-- The expanded squared distance, read at an entry. -/
theorem dist8_apply (l : FVec Ideal S400x3 .f32) (p : FVec Ideal S3x10112 .f32) (r : Fin 400) (j : Fin 10112) :
    dist8 l p (ix2 r j) = ((∑ k : Fin 3, l (ix2 r k) * l (ix2 r k)) + ∑ k : Fin 3, p (ix2 k j) * p (ix2 k j) : EReal)
      - ((∑ k : Fin 3, l (ix2 r k) * p (ix2 k j)) + ∑ k : Fin 3, l (ix2 r k) * p (ix2 k j)) := by
  pointwise [dist8]

end Knn

end
-- ==== Proof.KSpatial.lean ====
/- The spatial selection of the second kernel, read by its mathematics: sixteen marking rounds by the least index, then
   weights `exp(least − distance)` on the marked atoms and zero elsewhere, divided by their sum. -/
module

public import proofs.«01_k».proof.Proof.KCounts

@[expose] public section

set_option maxRecDepth 16384

noncomputable section

open Idealize.ShloMosaic Idealize.ShloMosaic.TcCoe Idealize.SL.Sem
open Cert.KernelIdeal Cert.KernelIdeal.Gen

namespace Knn

/-- The atoms' indices as words. -/
def idxRow : IVec S1x10112 32 := iota .tc S1x10112 32 [1] iota_S1x10112_d1_w32

/-- The minimum of a row, repeated along it. -/
def min1 (v : FVec Ideal S1x10112 .f32) : FVec Ideal S1x10112 .f32 :=
  broadcastTo S1x10112 (shapeCast S1x1 (multiReduction .minimumf [1] S1 v 0x7F800000#32 reduces_S1x10112_S1 (.inl rfl) rfl)
    shapeCasts_S1_S1x1) broadcasts_S1x1_S1x10112

/-- The indices where the row is at its minimum, the number of atoms elsewhere. -/
def idxed (I : IVec S1x10112 32) (v : FVec Ideal S1x10112 .f32) : IVec S1x10112 32 :=
  select (cmpf .oeq v (min1 v)) I (broadcast S1x10112 10112#32)

/-- The least of a row of words, repeated along it. -/
def least1 (w : IVec S1x10112 32) : IVec S1x10112 32 :=
  broadcastTo S1x10112 (shapeCast S1x1 (multiReductionI .minsi [1] S1 w 2147483647#32 reduces_S1x10112_S1 rfl)
    shapeCasts_S1_S1x1) broadcasts_S1x1_S1x10112

/-- One marking round on the row, from the words of the indices at the minimum. -/
def mark1 (I w : IVec S1x10112 32) (v : FVec Ideal S1x10112 .f32) : FVec Ideal S1x10112 .f32 :=
  select (cmpi .eq I (least1 w)) (broadcast S1x10112 (Scalar.ofBits (F := Ideal) .f32 0x7F800000#32)) v

/-- One marking round on the row. -/
def round1 (I : IVec S1x10112 32) (v : FVec Ideal S1x10112 .f32) : FVec Ideal S1x10112 .f32 := mark1 I (idxed I v) v

/-- The unnormalized weights: `exp(least − distance)` where the marked row is `⊤`, zero elsewhere. -/
def weights1 (d m : FVec Ideal S1x10112 .f32) : FVec Ideal S1x10112 .f32 :=
  select (cmpf .oeq m (broadcast S1x10112 (Scalar.ofBits (F := Ideal) .f32 0x7F800000#32))) (exp (subf (min1 d) d))
    (broadcast S1x10112 (Scalar.ofBits (F := Ideal) .f32 0x00000000#32))

/-- The weights divided by their sum, times the features. -/
def pool1 (f : FVec Ideal S10112x256 .f32) (e : FVec Ideal S1x10112 .f32) : FVec Ideal S1x256 .f32 :=
  matmul dot_S1x10112_S10112x256_S1x256_1_0_0_1_n_n none
    (divf e (broadcastTo S1x10112 (shapeCast S1x1 (multiReduction .add [1] S1 e 0x00000000#32 reduces_S1x10112_S1 (.inl rfl) rfl)
      shapeCasts_S1_S1x1) broadcasts_S1x1_S1x10112)) f (constant S1x256 .f32 0x00000000#32)

/-- The spatial head: a linear map of the pooled features. -/
def head1 (x : FVec Ideal S1x256 .f32) (W : FVec Ideal S256x512 .f32) (b : FVec Ideal S1x512 .f32) : FVec Ideal S1x512 .f32 :=
  addf (matmul dot_S1x256_S256x512_S1x512_1_0_0_1_n_n none x W (constant S1x512 .f32 0x00000000#32))
    (shapeCast S1x512 b shapeCasts_S1x512_S1x512)

/-- The first round's words. -/
theorem pay4_1 (q : FVec Ideal S1x3 .f32) (p : FVec Ideal S3x10112 .f32) : k1_pay4 (F := Ideal) q p = idxed idxRow (k1_pay3 (F := Ideal) q p) := by
  unfold k1_pay4 idxed min1 idxRow; rfl

/-- Rounds one to four. -/
theorem pay5_1 (v : FVec Ideal S1x10112 .f32) (I w : IVec S1x10112 32) :
    k1_pay5 v I w = round1 I (round1 I (round1 I (mark1 I w v))) := by
  unfold k1_pay5 round1 idxed mark1 least1 min1; rfl

/-- Rounds five to eight. -/
theorem pay7_1 (v : FVec Ideal S1x10112 .f32) (I w : IVec S1x10112 32) :
    k1_pay7 I (k1_pay5 v I w) (k1_pay6 v I w) = round1 I (round1 I (round1 I (round1 I (k1_pay5 v I w)))) := by
  unfold k1_pay7 k1_pay6 round1 idxed mark1 least1 min1; rfl

/-- Rounds nine to eleven. -/
theorem pay8_1 (v : FVec Ideal S1x10112 .f32) (I : IVec S1x10112 32) :
    k1_pay8 I v = round1 I (round1 I (round1 I v)) := by
  unfold k1_pay8 round1 idxed mark1 least1 min1; rfl

/-- Rounds twelve to fifteen. -/
theorem pay10_1 (v : FVec Ideal S1x10112 .f32) (I : IVec S1x10112 32) :
    k1_pay10 I (k1_pay8 I v) (k1_pay9 I v) = round1 I (round1 I (round1 I (round1 I (k1_pay8 I v)))) := by
  unfold k1_pay10 k1_pay9 round1 idxed mark1 least1 min1; rfl

/-- Round sixteen's words. -/
theorem pay11_1 (I : IVec S1x10112 32) (v : FVec Ideal S1x10112 .f32) (c : IVec S1x10112 1) :
    k1_pay11 I v c = idxed I (k1_pay10 I v c) := by
  unfold k1_pay11 idxed min1; rfl

/-- Round sixteen, the weights, the pooling and the spatial head. -/
theorem pay12_1 (f : FVec Ideal S10112x256 .f32) (d : FVec Ideal S1x10112 .f32) (I w : IVec S1x10112 32) (v : FVec Ideal S1x10112 .f32)
    (W : FVec Ideal S256x512 .f32) (b : FVec Ideal S1x512 .f32) :
    k1_pay12 f d I v w W b = head1 (pool1 f (weights1 d (mark1 I w v))) W b := by
  unfold k1_pay12 head1 pool1 weights1 mark1 least1 min1; rfl

/-- All sixteen rounds, the weights, the pooling and the head, from the distances. -/
theorem spatial_eq (f : FVec Ideal S10112x256 .f32) (q : FVec Ideal S1x3 .f32) (p : FVec Ideal S3x10112 .f32)
    (W : FVec Ideal S256x512 .f32) (b : FVec Ideal S1x512 .f32) :
    k1_pay12 f (k1_pay3 (F := Ideal) q p) idxRow
        (k1_pay10 idxRow (k1_pay8 idxRow (k1_pay7 idxRow (k1_pay5 (k1_pay3 (F := Ideal) q p) idxRow (k1_pay4 (F := Ideal) q p)) (k1_pay6 (k1_pay3 (F := Ideal) q p) idxRow (k1_pay4 (F := Ideal) q p))))
          (k1_pay9 idxRow (k1_pay7 idxRow (k1_pay5 (k1_pay3 (F := Ideal) q p) idxRow (k1_pay4 (F := Ideal) q p)) (k1_pay6 (k1_pay3 (F := Ideal) q p) idxRow (k1_pay4 (F := Ideal) q p)))))
        (k1_pay11 idxRow (k1_pay8 idxRow (k1_pay7 idxRow (k1_pay5 (k1_pay3 (F := Ideal) q p) idxRow (k1_pay4 (F := Ideal) q p)) (k1_pay6 (k1_pay3 (F := Ideal) q p) idxRow (k1_pay4 (F := Ideal) q p))))
          (k1_pay9 idxRow (k1_pay7 idxRow (k1_pay5 (k1_pay3 (F := Ideal) q p) idxRow (k1_pay4 (F := Ideal) q p)) (k1_pay6 (k1_pay3 (F := Ideal) q p) idxRow (k1_pay4 (F := Ideal) q p))))) W b
      = head1 (pool1 f (weights1 (k1_pay3 (F := Ideal) q p) ((round1 idxRow)^[16] (k1_pay3 (F := Ideal) q p)))) W b := by
  rw [pay11_1, pay12_1, pay10_1, pay8_1, pay7_1, pay5_1, pay4_1]
  simp only [Function.iterate_succ, Function.iterate_zero, Function.comp, id]
  rfl

/-- The row minimum, read at an entry. -/
theorem min1_apply (v : FVec Ideal S1x10112 .f32) (j : Fin 10112) :
    min1 v (ix2 0 j) = Finset.univ.fold min ⊤ fun k : Fin 10112 => v (ix2 0 k) := by
  pointwise [min1]
  exact congrArg (fun b => Finset.univ.fold min b fun k : Fin 10112 => v (ix2 0 k)) ofBits_top_f32

/-- The least word, read at an entry. -/
theorem least1_apply (w : IVec S1x10112 32) (j : Fin 10112) :
    least1 w (ix2 0 j) = Finset.univ.fold IntOp.minsi 2147483647#32 fun k : Fin 10112 => w (ix2 0 k) := by
  pointwise [least1]

/-- The words at the minimum, read at an entry. -/
theorem idxed_apply (v : FVec Ideal S1x10112 .f32) (j : Fin 10112) :
    idxed idxRow v (ix2 0 j) = if v (ix2 0 j) = min1 v (ix2 0 j) then BitVec.ofNat 32 j.val else 10112#32 := by
  pointwise [idxed, idxRow]

/-- The mark, read at an entry. -/
theorem mark1_apply (w : IVec S1x10112 32) (v : FVec Ideal S1x10112 .f32) (j : Fin 10112) :
    mark1 idxRow w v (ix2 0 j) = if BitVec.ofNat 32 j.val = least1 w (ix2 0 j) then (⊤ : EReal) else v (ix2 0 j) := by
  pointwise [mark1, idxRow]
  rw [ofBits_top_f32]
  by_cases h : BitVec.ofNat 32 j.val = least1 w (ix2 0 j)
  · simp [h, Scalar.select, IntOp.cmpi]
  · have hb : (BitVec.ofNat 32 j.val == least1 w (ix2 0 j)) = false := by simpa using h
    simp [h, hb, Scalar.select, IntOp.cmpi]

/-- The lesser of two words, read signed. -/
theorem toInt_minsi (x y : BitVec 32) : (IntOp.minsi x y).toInt = min x.toInt y.toInt := by
  unfold IntOp.minsi
  simp only [BitVec.slt, decide_eq_true_eq]
  split
  · rw [min_eq_left (by omega)]
  · rw [min_eq_right (by omega)]

/-- An atom's index as a word, read signed, is the index. -/
theorem toInt_idx (j : Fin 10112) : (BitVec.ofNat 32 j.val).toInt = j.val := by
  have := j.isLt
  rw [BitVec.toInt_eq_toNat_of_lt] <;> simp only [BitVec.toNat_ofNat] <;> omega

/-- The least word among the indices at the minimum is the least such index. -/
theorem least_index (v : Fin 10112 → EReal) (μ : EReal) (hat : ∃ j, μ = v j) :
    ∃ p : Fin 10112, v p = μ ∧ (∀ j, v j = μ → p ≤ j) ∧
      (Finset.univ.fold IntOp.minsi 2147483647#32 fun k : Fin 10112 => if v k = μ then BitVec.ofNat 32 k.val else 10112#32)
        = BitVec.ofNat 32 p.val := by
  classical
  set f : Fin 10112 → BitVec 32 := fun k => if v k = μ then BitVec.ofNat 32 k.val else 10112#32 with hf
  have hfold : (Finset.univ.fold IntOp.minsi 2147483647#32 f).toInt
      = Finset.univ.fold min (2147483647 : ℤ) fun k => (f k).toInt := by
    have := Finset.fold_hom (op := IntOp.minsi (w := 32)) (op' := min) (s := Finset.univ) (b := 2147483647#32) (f := f)
      (m := BitVec.toInt) toInt_minsi
    rw [← this]; rfl
  have hval : ∀ k, (f k).toInt = if v k = μ then (k.val : ℤ) else 10112 := by
    intro k
    simp only [hf]
    split
    · exact toInt_idx k
    · rfl
  simp only [hval] at hfold
  set z := Finset.univ.fold min (2147483647 : ℤ) fun k : Fin 10112 => if v k = μ then (k.val : ℤ) else 10112 with hz
  have hle : ∀ k : Fin 10112, z ≤ if v k = μ then (k.val : ℤ) else 10112 := fun k =>
    ((Finset.le_fold_min (s := Finset.univ) (b := (2147483647 : ℤ)) _).1 le_rfl).2 k (Finset.mem_univ k)
  obtain ⟨j₁, hj₁⟩ := hat
  have hz1 : z ≤ j₁.val := by simpa [← hj₁] using hle j₁
  have hj1 := j₁.isLt
  rcases (Finset.fold_min_le (s := Finset.univ) (b := (2147483647 : ℤ)) (f := fun k : Fin 10112 => if v k = μ then (k.val : ℤ) else 10112) z).1
    le_rfl with h | ⟨k, -, h⟩
  · omega
  · by_cases hk : v k = μ
    · simp only [hk, if_true] at h
      have hzk : z = k.val := le_antisymm (by simpa [hk] using hle k) h
      refine ⟨k, hk, fun j hj => ?_, ?_⟩
      · have := hle j
        simp only [hj, if_true] at this
        exact Fin.le_def.2 (by omega)
      · exact BitVec.eq_of_toInt_eq (by rw [hfold, toInt_idx, hzk])
    · simp only [hk, if_false] at h
      omega

/-- One round advances the marks of the row by one. -/
theorem round1_marked (v : FVec Ideal S1x10112 .f32) (d : Fin 10112 → EReal) (hd : ∀ j, d j ≠ ⊤) (k : ℕ) (hk : k < 10112)
    (hv : ∀ j, v (ix2 0 j) = marked d k j) (j : Fin 10112) : round1 idxRow v (ix2 0 j) = marked d (k + 1) j := by
  haveI : Nonempty (Fin 10112) := ⟨0⟩
  obtain ⟨p, hp, hmin, hfold⟩ := least_index (fun j => v (ix2 0 j)) _ (fold_min_mem fun k : Fin 10112 => v (ix2 0 k))
  have e : least1 (idxed idxRow v) (ix2 0 j) = BitVec.ofNat 32 p.val := by
    rw [least1_apply, ← hfold]
    exact congrArg (Finset.univ.fold IntOp.minsi 2147483647#32) (funext fun k => by rw [idxed_apply, min1_apply])
  unfold round1
  rw [mark1_apply, e]
  have hiff : (BitVec.ofNat 32 j.val = BitVec.ofNat 32 p.val) ↔ j = p := by
    constructor
    · intro h
      have := congrArg BitVec.toInt h
      rw [toInt_idx, toInt_idx] at this
      exact Fin.ext (by omega)
    · rintro rfl; rfl
  rw [← round_index d hd hk hv (fold_min_le _) (fold_min_mem _) hp hmin j]
  by_cases hj : j = p
  · rw [if_pos (hiff.2 hj), if_pos hj]
  · rw [if_neg (fun h => hj (hiff.1 h)), if_neg hj]

/-- `k` rounds mark the atoms of rank below `k`. -/
theorem rounds1_marked (v : FVec Ideal S1x10112 .f32) (hd : ∀ j : Fin 10112, v (ix2 0 j) ≠ (⊤ : EReal)) (k : ℕ) (hk : k ≤ 10112) :
    ∀ j, ((round1 idxRow)^[k] v) (ix2 0 j) = marked (fun j : Fin 10112 => v (ix2 0 j)) k j := by
  induction k with
  | zero => intro j; rw [marked_zero]; rfl
  | succ k ih =>
    rw [Function.iterate_succ_apply']
    exact round1_marked _ _ hd k (by omega) (ih (by omega))

/-- The weights, read at an entry. -/
theorem weights1_apply (d m : FVec Ideal S1x10112 .f32) (j : Fin 10112) :
    weights1 d m (ix2 0 j) = if m (ix2 0 j) = (⊤ : EReal) then Ideal.exp (min1 d (ix2 0 j) - d (ix2 0 j) : EReal) else 0 := by
  pointwise [weights1]
  rw [ofBits_top_f32]

/-- The pooled features, read at an entry. -/
theorem pool1_apply (f : FVec Ideal S10112x256 .f32) (e : FVec Ideal S1x10112 .f32) (c : Fin 256) :
    pool1 f e (ix2 0 c) = ∑ j : Fin 10112, (Ideal.div (e (ix2 0 j)) (∑ k : Fin 10112, e (ix2 0 k)) * f (ix2 j c) : EReal) := by
  pointwise [pool1]

/-- The spatial head, read at an entry. -/
theorem head1_apply (x : FVec Ideal S1x256 .f32) (W : FVec Ideal S256x512 .f32) (b : FVec Ideal S1x512 .f32) (c : Fin 512) :
    head1 x W b (ix2 0 c) = (∑ i : Fin 256, (x (ix2 0 i) * W (ix2 i c) : EReal)) + b (ix2 0 c) := by
  pointwise [head1]

/-- The squared distances from the query, read at an entry. -/
theorem distq_apply (q : FVec Ideal S1x3 .f32) (p : FVec Ideal S3x10112 .f32) (j : Fin 10112) :
    k1_pay3 (F := Ideal) q p (ix2 0 j) = (q (ix2 0 0) - p (ix2 0 j) : EReal) * (q (ix2 0 0) - p (ix2 0 j))
      + (q (ix2 0 1) - p (ix2 1 j)) * (q (ix2 0 1) - p (ix2 1 j)) + (q (ix2 0 2) - p (ix2 2 j)) * (q (ix2 0 2) - p (ix2 2 j)) := by
  pointwise [k1_pay3]

/-- The mean of the contexts, read at an entry of the first half. -/
theorem ctx_lo (f : FVec Ideal S10112x256 .f32) (n : FVec Ideal S5x1x10112 .f32) (l : FVec Ideal S2000x256 .f32) (c : Fin 256) :
    (k1_pay2 f n l : FVec Ideal S1x512 .f32) (ix2 0 ⟨c.val, by omega⟩)
      = Ideal.div (∑ j : Fin 10112, ((∑ g : Fin 5, n (ix3 g 0 j)) * f (ix2 j c) : EReal)) (Ideal.ofBits .f32 0x467A0000#32) := by
  pointwise [k1_pay2, k1_pay1]

/-- The mean of the contexts, read at an entry of the second half. -/
theorem ctx_hi (f : FVec Ideal S10112x256 .f32) (n : FVec Ideal S5x1x10112 .f32) (l : FVec Ideal S2000x256 .f32) (c : Fin 256) :
    (k1_pay2 f n l : FVec Ideal S1x512 .f32) (ix2 0 ⟨256 + c.val, by omega⟩)
      = Ideal.div (∑ r : Fin 2000, (l (ix2 r c) : EReal)) (Ideal.ofBits .f32 0x44FA0000#32) := by
  pointwise [k1_pay2, k1_pay1]

end Knn

end
-- ==== Proof.Spec.lean ====
/- The mathematics both programs compute, stated on extended reals and plain index functions: the shifted softplus, an
   affine map, the softmax and the two heads. -/
module

public import Idealize.ShloMosaic.Lib.Pointwise

@[expose] public section

noncomputable section

open Idealize.ShloMosaic

namespace Knn

/-- The softplus less the logarithm of two, in its stable form. -/
def soft (x : EReal) : EReal :=
  max x 0 + Ideal.log1p (Ideal.exp (-(max x (-x)))) - ((Real.log 2 : ℝ) : EReal)

/-- The squared distance of two points of space. -/
def dist (a b : Fin 3 → EReal) : EReal := ∑ k, (a k - b k) * (a k - b k)

/-- An affine map of a vector. -/
def aff {m n : ℕ} (x : Fin m → EReal) (W : Fin m → Fin n → EReal) (b : Fin n → EReal) (j : Fin n) : EReal :=
  (∑ i, x i * W i j) + b j

/-- The greatest entry, no less than `⊥`. -/
def top {n : ℕ} (x : Fin n → EReal) : EReal := max ⊥ (Finset.univ.fold max ⊥ x)

/-- The softmax, its exponents taken relative to the greatest entry. -/
def softmax {n : ℕ} (x : Fin n → EReal) (j : Fin n) : EReal :=
  Ideal.div (Ideal.exp (x j - top x)) (∑ k, Ideal.exp (x k - top x))

/-- An affine map of two vectors of 512 joined. -/
def affJoin {n : ℕ} (a s : Fin 512 → EReal) (W : Fin 1024 → Fin n → EReal) (b : Fin n → EReal) (j : Fin n) : EReal :=
  (∑ i : Fin 512, a i * W ⟨i.val, by omega⟩ j) + (∑ i : Fin 512, s i * W ⟨512 + i.val, by omega⟩ j) + b j

/-- The atom-type head: the aggregate's two layers, joined with the spatial vector, two more layers, softmax. -/
def atomType (ctx sp : Fin 512 → EReal) (W₁ : Fin 512 → Fin 512 → EReal) (b₁ : Fin 512 → EReal) (W₂ : Fin 512 → Fin 512 → EReal)
    (b₂ : Fin 512 → EReal) (W₃ : Fin 1024 → Fin 512 → EReal) (b₃ : Fin 512 → EReal) (W₄ : Fin 512 → Fin 32 → EReal)
    (b₄ : Fin 32 → EReal) : Fin 32 → EReal :=
  softmax (aff (fun i => soft (affJoin (aff (fun i => soft (aff ctx W₁ b₁ i)) W₂ b₂) sp W₃ b₃ i)) W₄ b₄)

/-- The termination head: two layers and a logistic. -/
def terminate (ctx : Fin 512 → EReal) (W₁ : Fin 512 → Fin 512 → EReal) (b₁ : Fin 512 → EReal) (W₂ : Fin 512 → EReal) (b₂ : EReal) :
    EReal :=
  Ideal.logistic ((∑ i, soft (aff ctx W₁ b₁ i) * W₂ i) + b₂)

end Knn

end
-- ==== Proof.KHeads.lean ====
/- The heads of the second kernel, read by their mathematics. -/
module

public import proofs.«01_k».proof.Proof.KSpatial
public import proofs.«01_k».proof.Proof.Spec

@[expose] public section

set_option maxRecDepth 16384

noncomputable section

open Idealize.ShloMosaic Idealize.ShloMosaic.TcCoe Idealize.SL.Sem
open Cert.KernelIdeal Cert.KernelIdeal.Gen

namespace Knn

/-- The kernel's named constant is the logarithm of two. -/
theorem named_log2 : (Named.named (F := Ideal) κ "log2" (φ := .f32) 0x3F317218#32 : EReal) = ((Real.log 2 : ℝ) : EReal) := rfl

/-- A vector of 512 with a zero in every entry. -/
def zero512 : FVec Ideal S1x512 .f32 := broadcast S1x512 (Scalar.ofBits (F := Ideal) .f32 0x00000000#32)

/-- The shifted softplus of a vector as the kernel writes it. -/
def softv (v : FVec Ideal S1x512 .f32) : FVec Ideal S1x512 .f32 :=
  subf (select (cmpf .one (subf v zero512) (subf v zero512)) (addf v zero512)
    (addf (maximumf v zero512) (log1p (exp (subf zero512 (absf (subf v zero512)))))))
    (broadcast S1x512 (Named.named (F := Ideal) κ "log2" (φ := .f32) 0x3F317218#32))

/-- The affine maps of the kernel, 512 to 512. -/
def affv (v : FVec Ideal S1x512 .f32) (W : FVec Ideal S512x512 .f32) (b : FVec Ideal S1x512 .f32) : FVec Ideal S1x512 .f32 :=
  addf (matmul dot_S1x512_S512x512_S1x512_1_0_0_1_n_n none v W (constant S1x512 .f32 0x00000000#32))
    (shapeCast S1x512 b shapeCasts_S1x512_S1x512)

/-- The affine map of the joined vector, 1024 to 512. -/
def affj (a s : FVec Ideal S1x512 .f32) (W : FVec Ideal S1024x512 .f32) (b : FVec Ideal S1x512 .f32) : FVec Ideal S1x512 .f32 :=
  addf (matmul dot_S1x1024_S1024x512_S1x512_1_0_0_1_n_n none
      (concatenate S1x1024 1 [⟨S1x512, a⟩, ⟨S1x512, s⟩] concatenates_S1x512_S1x512_S1x1024_d1) W (constant S1x512 .f32 0x00000000#32))
    (shapeCast S1x512 b shapeCasts_S1x512_S1x512)

/-- The last affine map of the atom-type head, 512 to 32. -/
def affo (v : FVec Ideal S1x512 .f32) (W : FVec Ideal S512x32 .f32) (b : FVec Ideal S1x32 .f32) : FVec Ideal S1x32 .f32 :=
  addf (matmul dot_S1x512_S512x32_S1x32_1_0_0_1_n_n none v W (constant S1x32 .f32 0x00000000#32))
    (shapeCast S1x32 b shapeCasts_S1x32_S1x32)

/-- The last affine map of the termination head, 512 to 1. -/
def afft (v : FVec Ideal S1x512 .f32) (W : FVec Ideal S512x1 .f32) (b : FVec Ideal S1x1 .f32) : FVec Ideal S1x1 .f32 :=
  addf (matmul dot_S1x512_S512x1_S1x1_1_0_0_1_n_n none v W (constant S1x1 .f32 0x00000000#32))
    (shapeCast S1x1 b shapeCasts_S1x1_S1x1)

/-- The logits: the aggregate's layers, the join, the classifier's layers. -/
theorem pay19_eq (s c : FVec Ideal S1x512 .f32) (W₁ : FVec Ideal S512x512 .f32) (b₁ : FVec Ideal S1x512 .f32)
    (W₂ : FVec Ideal S512x512 .f32) (b₂ : FVec Ideal S1x512 .f32) (W₃ : FVec Ideal S1024x512 .f32) (b₃ : FVec Ideal S1x512 .f32)
    (W₄ : FVec Ideal S512x32 .f32) (b₄ : FVec Ideal S1x32 .f32) :
    k1_pay19 (F := Ideal) s (k1_pay14 (F := Ideal) c W₁ b₁) (k1_pay16 (F := Ideal) c W₁ b₁) (k1_pay17 (F := Ideal) c W₁ b₁)
        (k1_pay18 (F := Ideal) c W₁ b₁) W₂ b₂ W₃ b₃ W₄ b₄
      = affo (softv (affj (affv (softv (affv c W₁ b₁)) W₂ b₂) s W₃ b₃)) W₄ b₄ := by
  unfold k1_pay19 k1_pay18 k1_pay17 k1_pay16 k1_pay15 k1_pay14 k1_pay13 affo softv affj affv zero512; rfl

/-- The termination head. -/
theorem pay22_eq (c : FVec Ideal S1x512 .f32) (W₁ : FVec Ideal S512x512 .f32) (b₁ : FVec Ideal S1x512 .f32)
    (W₂ : FVec Ideal S512x1 .f32) (b₂ : FVec Ideal S1x1 .f32) :
    k1_pay22 (F := Ideal) c W₁ b₁ W₂ b₂ = logistic (afft (softv (affv c W₁ b₁)) W₂ b₂) := by
  unfold k1_pay22 afft softv affv zero512; rfl

/-- The softmax of a row of 32 as the kernel writes it, from the logits. -/
def smax (v : FVec Ideal S1x32 .f32) : FVec Ideal S1x32 .f32 :=
  k1_pay21 v (maximumf (broadcast S1 (Scalar.ofBits (F := Ideal) .f32 0xFF800000#32))
    (multiReduction .maximumf [1] S1 v 0xFF800000#32 reduces_S1x32_S1 (.inl rfl) rfl))

/-- The atom-type head. -/
theorem pay21_eq (s c : FVec Ideal S1x512 .f32) (W₁ : FVec Ideal S512x512 .f32) (b₁ : FVec Ideal S1x512 .f32)
    (W₂ : FVec Ideal S512x512 .f32) (b₂ : FVec Ideal S1x512 .f32) (W₃ : FVec Ideal S1024x512 .f32) (b₃ : FVec Ideal S1x512 .f32)
    (W₄ : FVec Ideal S512x32 .f32) (b₄ : FVec Ideal S1x32 .f32) :
    k1_pay21 (k1_pay19 (F := Ideal) s (k1_pay14 (F := Ideal) c W₁ b₁) (k1_pay16 (F := Ideal) c W₁ b₁) (k1_pay17 (F := Ideal) c W₁ b₁)
        (k1_pay18 (F := Ideal) c W₁ b₁) W₂ b₂ W₃ b₃ W₄ b₄)
      (k1_pay20 (F := Ideal) s (k1_pay14 (F := Ideal) c W₁ b₁) (k1_pay16 (F := Ideal) c W₁ b₁) (k1_pay17 (F := Ideal) c W₁ b₁)
        (k1_pay18 (F := Ideal) c W₁ b₁) W₂ b₂ W₃ b₃ W₄ b₄)
      = smax (affo (softv (affj (affv (softv (affv c W₁ b₁)) W₂ b₂) s W₃ b₃)) W₄ b₄) := by
  unfold k1_pay20 smax
  rw [pay19_eq]

/-- The shifted softplus, read at an entry. -/
theorem softv_apply (v : FVec Ideal S1x512 .f32) (j : Fin 512) : softv v (ix2 0 j) = soft (v (ix2 0 j)) := by
  pointwise [softv, zero512]
  rw [show (Named.named (F := Ideal) κ "log2" (φ := .f32) 0x3F317218#32 : EReal) = ((Real.log 2 : ℝ) : EReal) from rfl]
  simp only [soft, ne_eq, not_true_eq_false, if_false, zero_sub]
  rfl

/-- An affine map, read at an entry. -/
theorem affv_apply (v : FVec Ideal S1x512 .f32) (W : FVec Ideal S512x512 .f32) (b : FVec Ideal S1x512 .f32) (j : Fin 512) :
    affv v W b (ix2 0 j) = aff (fun i => v (ix2 0 i)) (fun i j => W (ix2 i j)) (fun j => b (ix2 0 j)) j := by
  pointwise [affv]
  rfl

/-- The affine map of the joined vector, read at an entry. -/
theorem affj_apply (a s : FVec Ideal S1x512 .f32) (W : FVec Ideal S1024x512 .f32) (b : FVec Ideal S1x512 .f32) (j : Fin 512) :
    affj a s W b (ix2 0 j)
      = affJoin (fun i => a (ix2 0 i)) (fun i => s (ix2 0 i)) (fun i j => W (ix2 i j)) (fun j => b (ix2 0 j)) j := by
  pointwise [affj]
  rfl

/-- The last affine map of the atom-type head, read at an entry. -/
theorem affo_apply (v : FVec Ideal S1x512 .f32) (W : FVec Ideal S512x32 .f32) (b : FVec Ideal S1x32 .f32) (j : Fin 32) :
    affo v W b (ix2 0 j) = aff (fun i => v (ix2 0 i)) (fun i j => W (ix2 i j)) (fun j => b (ix2 0 j)) j := by
  pointwise [affo]
  rfl

/-- The last affine map of the termination head, read at its entry. -/
theorem afft_apply (v : FVec Ideal S1x512 .f32) (W : FVec Ideal S512x1 .f32) (b : FVec Ideal S1x1 .f32) :
    afft v W b (ix2 0 0) = (∑ i : Fin 512, (v (ix2 0 i) * W (ix2 i 0) : EReal)) + b (ix2 0 0) := by
  pointwise [afft]

/-- The softmax, read at an entry. -/
theorem smax_apply (v : FVec Ideal S1x32 .f32) (j : Fin 32) : smax v (ix2 0 j) = softmax (fun j => v (ix2 0 j)) j := by
  pointwise [smax, k1_pay21]
  simp only [ofBits_bot_f32]
  rfl

/-- THE ATOM TYPES, from the context and the spatial vector. -/
theorem atomType_eq (s c : FVec Ideal S1x512 .f32) (W₁ : FVec Ideal S512x512 .f32) (b₁ : FVec Ideal S1x512 .f32)
    (W₂ : FVec Ideal S512x512 .f32) (b₂ : FVec Ideal S1x512 .f32) (W₃ : FVec Ideal S1024x512 .f32) (b₃ : FVec Ideal S1x512 .f32)
    (W₄ : FVec Ideal S512x32 .f32) (b₄ : FVec Ideal S1x32 .f32) (j : Fin 32) :
    smax (affo (softv (affj (affv (softv (affv c W₁ b₁)) W₂ b₂) s W₃ b₃)) W₄ b₄) (ix2 0 j)
      = atomType (fun i => c (ix2 0 i)) (fun i => s (ix2 0 i)) (fun i j => W₁ (ix2 i j)) (fun j => b₁ (ix2 0 j))
          (fun i j => W₂ (ix2 i j)) (fun j => b₂ (ix2 0 j)) (fun i j => W₃ (ix2 i j)) (fun j => b₃ (ix2 0 j))
          (fun i j => W₄ (ix2 i j)) (fun j => b₄ (ix2 0 j)) j := by
  rw [smax_apply]
  unfold atomType
  refine congrArg (fun x => softmax x j) (funext fun j => ?_)
  rw [affo_apply]
  simp only [softv_apply, affj_apply, affv_apply]

/-- THE TERMINATION, from the context. -/
theorem terminate_eq (c : FVec Ideal S1x512 .f32) (W₁ : FVec Ideal S512x512 .f32) (b₁ : FVec Ideal S1x512 .f32)
    (W₂ : FVec Ideal S512x1 .f32) (b₂ : FVec Ideal S1x1 .f32) :
    (logistic (afft (softv (affv c W₁ b₁)) W₂ b₂) : FVec Ideal S1x1 .f32) (ix2 0 0)
      = terminate (fun i => c (ix2 0 i)) (fun i j => W₁ (ix2 i j)) (fun j => b₁ (ix2 0 j)) (fun i => W₂ (ix2 i 0)) (b₂ (ix2 0 0)) := by
  change Ideal.logistic (afft (softv (affv c W₁ b₁)) W₂ b₂ (ix2 0 0)) = _
  rw [afft_apply]
  simp only [softv_apply, affv_apply]
  rfl

end Knn

end
-- ==== Proof.KOut.lean ====
/- What the second kernel leaves in its two output buffers, as the heads of the context and the spatial vector. -/
module

public import proofs.«01_k».proof.Proof.KHeads
public import proofs.«01_k».proof.Proof.KCounts
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Knn

/-- The spatial vector of the kernel from its blocks. -/
def spK (f : FVec Ideal S10112x256 .f32) (q : FVec Ideal S1x3 .f32) (p : FVec Ideal S3x10112 .f32)
    (W : FVec Ideal S256x512 .f32) (b : FVec Ideal S1x512 .f32) : FVec Ideal S1x512 .f32 :=
  head1 (pool1 f (weights1 (k1_pay3 (F := Ideal) q p) ((round1 idxRow)^[16] (k1_pay3 (F := Ideal) q p)))) W b

/-- The features pass through unchanged. -/
theorem pay1_id (f : FVec Ideal S10112x256 .f32) : k1_pay1 (F := Ideal) f = f := by
  unfold k1_pay1; exact shapeCast_self _ _

/-- The first output buffer of the second kernel. -/
theorem out19_eq (x0 : FVec Ideal S5x1x10112 .f32) (x1 : FVec Ideal S10112x256 .f32) (x2 : FVec Ideal S2000x256 .f32) (x3 : FVec Ideal S1x3 .f32) (x4 : FVec Ideal S3x10112 .f32) (x5 : FVec Ideal S512x512 .f32) (x6 : FVec Ideal S1x512 .f32) (x7 : FVec Ideal S512x512 .f32) (x8 : FVec Ideal S1x512 .f32) (x9 : FVec Ideal S256x512 .f32) (x10 : FVec Ideal S1x512 .f32) (x11 : FVec Ideal S1024x512 .f32) (x12 : FVec Ideal S1x512 .f32) (x13 : FVec Ideal S512x32 .f32) (x14 : FVec Ideal S1x32 .f32) (x15 : FVec Ideal S512x512 .f32) (x16 : FVec Ideal S1x512 .f32) (x17 : FVec Ideal S512x1 .f32) (x18 : FVec Ideal S1x1 .f32) :
    out1_19 (F := Ideal) x0 x1 x2 x3 x4 x5 x6 x7 x8 x9 x10 x11 x12 x13 x14 x15 x16 x17 x18
      = smax (affo (softv (affj (affv (softv (affv (k1_pay2 (F := Ideal) x1 x0 x2) x5 x6)) x7 x8) (spK x1 x3 x4 x9 x10) x11 x12)) x13 x14) := by
  unfold out1_19 k1_pay34 k1_pay33 k1_pay32 k1_pay31 k1_pay30 k1_pay29 k1_pay28 k1_pay27 k1_pay26 k1_pay25 k1_pay24 k1_pay23
  simp (disch := decide) only [View.canon_cons_unit_lit', View.ld_unit_lit']
  rw [pay21_eq, pay1_id]
  unfold spK
  rw [← spatial_eq]
  rfl

/-- The second output buffer of the second kernel. -/
theorem out20_eq (x0 : FVec Ideal S5x1x10112 .f32) (x1 : FVec Ideal S10112x256 .f32) (x2 : FVec Ideal S2000x256 .f32) (x3 : FVec Ideal S1x3 .f32) (x4 : FVec Ideal S3x10112 .f32) (x5 : FVec Ideal S512x512 .f32) (x6 : FVec Ideal S1x512 .f32) (x7 : FVec Ideal S512x512 .f32) (x8 : FVec Ideal S1x512 .f32) (x9 : FVec Ideal S256x512 .f32) (x10 : FVec Ideal S1x512 .f32) (x11 : FVec Ideal S1024x512 .f32) (x12 : FVec Ideal S1x512 .f32) (x13 : FVec Ideal S512x32 .f32) (x14 : FVec Ideal S1x32 .f32) (x15 : FVec Ideal S512x512 .f32) (x16 : FVec Ideal S1x512 .f32) (x17 : FVec Ideal S512x1 .f32) (x18 : FVec Ideal S1x1 .f32) :
    out1_20 (F := Ideal) x0 x1 x2 x3 x4 x5 x6 x7 x8 x9 x10 x11 x12 x13 x14 x15 x16 x17 x18 = logistic (afft (softv (affv (k1_pay2 (F := Ideal) x1 x0 x2) x15 x16)) x17 x18) := by
  unfold out1_20 k1_pay24
  simp (disch := decide) only [View.canon_cons_unit_lit', View.ld_unit_lit']
  rw [pay22_eq]

/-- The first kernel's output buffer. -/
theorem out3_eq (x0 : FVec Ideal S400x3 .f32) (x1 : FVec Ideal S3x10112 .f32) (x2 : FVec Ideal S1x10112 .bf16) :
    out0_3 (F := Ideal) x0 x1 x2
      = (k0_pay1 (F := Ideal) (k0_pay8 (k0_pay2 x2) (k0_pay6 (k0_pay2 x2) (k0_pay3 x0 x1 x2) (k0_pay4 x0 x1 x2) (k0_pay5 x0 x1 x2)) (k0_pay7 (k0_pay2 x2) (k0_pay3 x0 x1 x2) (k0_pay4 x0 x1 x2) (k0_pay5 x0 x1 x2))) : FVec Ideal S1x1x10112 .f32) := by
  unfold out0_3 k0_pay12 k0_pay11 k0_pay10 k0_pay9
  simp (disch := decide) only [View.canon_cons_unit_lit', View.ld_unit_lit']

end Knn

end
-- ==== Proof.KHost.lean ====
/- The host operations around the kernels: what each kernel's arrays hold when its region is entered, and how the results are
   read off the second kernel's outputs. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Knn

variable (m : (ℓ : Loc nD τ sig) → Buf (Elt Ideal) ℓ) (ρ : Dev nD → PrngReg) (c : Dev nD)

/-- The padded positions, transposed. -/
def posT (p : FVec Ideal S10000x3 .f32) : FVec Ideal S3x10112 .f32 :=
  transpose S3x10112 [1, 0] (concatenate S10112x3 0 [⟨S10000x3, p⟩, ⟨S112x3, broadcastInDim S112x3 ![] bcast_S_S112x3 (constant S_ .f32 0x49742400#32)⟩] concatenates_S10000x3_S112x3_S10112x3_d0) transposes_S10112x3_S3x10112_1_0

/-- The padded features. -/
def featP (f : FVec Ideal S10000x256 .f32) : FVec Ideal S10112x256 .f32 :=
  concatenate S10112x256 0 [⟨S10000x256, f⟩, ⟨S112x256, broadcastInDim S112x256 ![] bcast_S_S112x256 (constant S_ .f32 0x00000000#32)⟩] concatenates_S10000x256_S112x256_S10112x256_d0

/-- The row of increasing 16-bit numbers. -/
def loRow : FVec Ideal S1x10112 .bf16 :=
  shapeCast S1x10112 (bitcastToFloat (F := Ideal) .bf16 (trunci 16 (addi (iotaInDim S10112 32 0) (broadcastInDim S10112 ![] bcast_S_S10112 (constantI S_ 32 16384#32))) natLt_16_32)) shapeCasts_S10112_S1x10112

/-- The first result is the second kernel's first output, reshaped. -/
theorem W5_v20 : W5 m ρ c (Proc.devRef .tc main_v20) = (shapeCast S32 (W4 m ρ c (Proc.devRef .tc main_v19_0) : FVec Ideal S1x32 .f32) shapeCasts_S1x32_S32 : FVec Ideal S32 .f32) := by
  show StableHlo.after hostOps2 (W4 m ρ c) (Proc.devRef .tc main_v20) = _
  unfold_abbrev_sides
  after_results
  rfl

/-- The second result is the second kernel's second output, reshaped. -/
theorem W5_v21 : W5 m ρ c (Proc.devRef .tc main_v21) = (shapeCast S1 (W4 m ρ c (Proc.devRef .tc main_v19_1) : FVec Ideal S1x1 .f32) shapeCasts_S1x1_S1 : FVec Ideal S1 .f32) := by
  show StableHlo.after hostOps2 (W4 m ρ c) (Proc.devRef .tc main_v21) = _
  unfold_abbrev_sides
  after_results
  rfl

/-- The padded positions at the first kernel's entry. -/
theorem W1_v2 : W1 m ρ c (Proc.devRef .tc main_v2) = posT (m ((c : Thread nD τ).loc main_arg1)) := by
  show StableHlo.after hostOps0 (W0 m ρ c) (Proc.devRef .tc main_v2) = _
  unfold_abbrev_sides
  after_results
  rfl

/-- The padded features. -/
theorem W1_v4 : W1 m ρ c (Proc.devRef .tc main_v4) = featP (m ((c : Thread nD τ).loc main_arg2)) := by
  show StableHlo.after hostOps0 (W0 m ρ c) (Proc.devRef .tc main_v4) = _
  unfold_abbrev_sides
  after_results
  rfl

/-- The row of increasing numbers. -/
theorem W1_v10 : W1 m ρ c (Proc.devRef .tc main_v10) = loRow := by
  show StableHlo.after hostOps0 (W0 m ρ c) (Proc.devRef .tc main_v10) = _
  unfold_abbrev_sides
  after_results
  rfl

/-- The biases as rows, at the second kernel's entry. -/
theorem W3_biases : W3 m ρ c (Proc.devRef .tc main_v12) = (shapeCast S1x512 (m ((c : Thread nD τ).loc main_arg6) : FVec Ideal S512 .f32) shapeCasts_S512_S1x512 : FVec Ideal S1x512 .f32)
    ∧ W3 m ρ c (Proc.devRef .tc main_v13) = (shapeCast S1x512 (m ((c : Thread nD τ).loc main_arg8) : FVec Ideal S512 .f32) shapeCasts_S512_S1x512 : FVec Ideal S1x512 .f32)
    ∧ W3 m ρ c (Proc.devRef .tc main_v14) = (shapeCast S1x512 (m ((c : Thread nD τ).loc main_arg10) : FVec Ideal S512 .f32) shapeCasts_S512_S1x512 : FVec Ideal S1x512 .f32)
    ∧ W3 m ρ c (Proc.devRef .tc main_v15) = (shapeCast S1x512 (m ((c : Thread nD τ).loc main_arg12) : FVec Ideal S512 .f32) shapeCasts_S512_S1x512 : FVec Ideal S1x512 .f32)
    ∧ W3 m ρ c (Proc.devRef .tc main_v16) = (shapeCast S1x32 (m ((c : Thread nD τ).loc main_arg14) : FVec Ideal S32 .f32) shapeCasts_S32_S1x32 : FVec Ideal S1x32 .f32)
    ∧ W3 m ρ c (Proc.devRef .tc main_v17) = (shapeCast S1x512 (m ((c : Thread nD τ).loc main_arg16) : FVec Ideal S512 .f32) shapeCasts_S512_S1x512 : FVec Ideal S1x512 .f32)
    ∧ W3 m ρ c (Proc.devRef .tc main_v18) = (shapeCast S1x1 (m ((c : Thread nD τ).loc main_arg18) : FVec Ideal S1 .f32) shapeCasts_S1_S1x1 : FVec Ideal S1x1 .f32) := by
  rw [← W2_args m ρ c main_arg6 (by decide), ← W2_args m ρ c main_arg8 (by decide), ← W2_args m ρ c main_arg10 (by decide), ← W2_args m ρ c main_arg12 (by decide), ← W2_args m ρ c main_arg14 (by decide), ← W2_args m ρ c main_arg16 (by decide), ← W2_args m ρ c main_arg18 (by decide)]
  refine ⟨?_, ?_, ?_, ?_, ?_, ?_, ?_⟩
  all_goals unfold W3 hostOps1
  all_goals after_results
  all_goals rfl

/-- The padded positions at the second kernel's entry. -/
theorem W3_v2 : W3 m ρ c (Proc.devRef .tc main_v2) = posT (m ((c : Thread nD τ).loc main_arg1)) :=
  (W3_of m ρ c main_v2 (by decide)).trans ((W2_of m ρ c main_v2 (by decide)).trans (W1_v2 m ρ c))

/-- The padded features at the second kernel's entry. -/
theorem W3_v4 : W3 m ρ c (Proc.devRef .tc main_v4) = featP (m ((c : Thread nD τ).loc main_arg2)) :=
  (W3_of m ρ c main_v4 (by decide)).trans ((W2_of m ρ c main_v4 (by decide)).trans (W1_v4 m ρ c))

/-- The counts at the second kernel's entry are what the first kernel leaves. -/
theorem W3_v11 : W3 m ρ c (Proc.devRef .tc main_v11) = (dat0 (V1 m ρ) c).arrAt 3 cfg0.N :=
  (W3_of m ρ c main_v11 (by decide)).trans (W2_arr m ρ c 3)

/-- The two outputs are what the second kernel leaves. -/
theorem W4_v19_0 : W4 m ρ c (Proc.devRef .tc main_v19_0) = (dat1 (V3 m ρ) c).arrAt 19 cfg1.N := W4_arr m ρ c 19

/-- The same, of the second output. -/
theorem W4_v19_1 : W4 m ρ c (Proc.devRef .tc main_v19_1) = (dat1 (V3 m ρ) c).arrAt 20 cfg1.N := W4_arr m ρ c 20

end Knn

end
-- ==== Proof.KRegion.lean ====
/- What each kernel's region leaves in its output arrays. -/
module

public import proofs.«01_k».proof.Proof.KOut
public import proofs.«01_k».proof.Proof.KHost

@[expose] public section

set_option maxRecDepth 16384

noncomputable section

open Idealize.ShloMosaic Idealize.ShloMosaic.TcCoe Idealize.SL.Sem
open Cert.KernelIdeal Cert.KernelIdeal.Gen

namespace Knn

variable (V : (c : Dev nD) → (b : Ref sig .tc) → Buf (Elt Ideal) ((c : Thread nD τ).loc b)) (c : Dev nD)

/-- A block of 400 ligand atoms' positions. -/
def ligBlock (l : FVec Ideal S2000x3 .f32) (g : Fin 5) : FVec Ideal S400x3 .f32 :=
  fun y => l (ix2 ⟨g.val * 400 + (y 0).val, by have := g.isLt; have h : (y 0).val < 400 := (y 0).isLt; omega⟩ (y 1))

/-- The counts of a block of ligand atoms. -/
def cntRow (l : FVec Ideal S400x3 .f32) (p : FVec Ideal S3x10112 .f32) (lo : FVec Ideal S1x10112 .bf16) : FVec Ideal S1x10112 .f32 :=
  k0_pay8 (k0_pay2 lo) (k0_pay6 (k0_pay2 lo) (k0_pay3 l p lo) (k0_pay4 l p lo) (k0_pay5 l p lo)) (k0_pay7 (k0_pay2 lo) (k0_pay3 l p lo) (k0_pay4 l p lo) (k0_pay5 l p lo))

/-- The counts of every block. -/
def cntArr (l : FVec Ideal S2000x3 .f32) (p : FVec Ideal S3x10112 .f32) (lo : FVec Ideal S1x10112 .bf16) : FVec Ideal S5x1x10112 .f32 :=
  fun i => cntRow (ligBlock l (i 0)) p lo (ix2 0 (i 2))

/-- The block indices of the first kernel's windows: the ligand's and the counts' block is the grid point's, the others are whole. -/
theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 ∧ win0_3.index t 2 = 0 := by
  decide +kernel

/-- The ligand block at a grid point. -/
theorem blk0_0 (t : Fin cfg0.N) : iblk0 V c 0 t = ligBlock (V c main_arg3) t := by
  obtain ⟨h0, h1, -⟩ := idx0 t
  blk_ext! [iblk0, ligBlock]
  all_goals omega

/-- The padded positions and the row of increasing numbers at a grid point are the whole arrays. -/
theorem blk0_whole (t : Fin cfg0.N) : iblk0 V c 1 t = V c main_v2 ∧ iblk0 V c 2 t = V c main_v10 := by
  obtain ⟨-, -, h0, h1, h2, h3, -⟩ := idx0 t
  refine ⟨?_, ?_⟩
  all_goals blk_ext! [iblk0]
  all_goals omega

/-- The counts' row as a block, read at an entry. -/
theorem k0_pay1_apply (v : FVec Ideal S1x10112 .f32) (j : Fin 10112) :
    (k0_pay1 (F := Ideal) v : FVec Ideal S1x1x10112 .f32) (ix3 0 0 j) = v (ix2 0 j) := by
  pointwise [k0_pay1]

/-- The first kernel leaves the counts. -/
theorem region0 : (dat0 V c).arrAt 3 cfg0.N = cntArr (V c main_arg3) (V c main_v2) (V c main_v10) := by
  refine (dat0 V c).arrAt_eq_of_covers 3 _ (by decide +kernel) fun t _ y => ?_
  obtain ⟨-, -, -, -, -, -, h0, h1, h2⟩ := idx0 t
  blk_simp
  rw [after0_3, out3_eq, blk0_0, (blk0_whole V c t).1, (blk0_whole V c t).2]
  have e : (win0_3.blk t).view.emb y = (ix3 (⟨t.val, t.isLt⟩ : Fin 5) (0 : Fin 1) (⟨(y 2).val, (y 2).isLt⟩ : Fin 10112) : S5x1x10112.Idx) := by
    blk_ext!
  have hy : y = (ix3 (0 : Fin 1) (0 : Fin 1) (⟨(y 2).val, (y 2).isLt⟩ : Fin 10112) : S1x1x10112.Idx) := by
    blk_ext!
  rw [e]
  refine (congrArg (k0_pay1 (F := Ideal) (cntRow (ligBlock (V c main_arg3) t) (V c main_v2) (V c main_v10))) hy).trans ?_
  exact k0_pay1_apply _ _

set_option maxHeartbeats 2000000 in
/-- The second kernel's grid has one point, so every input's block is its whole array. -/
theorem blk1 : iblk1 V c 0 t1_0 = V c main_v11
    ∧ iblk1 V c 1 t1_0 = V c main_v4
    ∧ iblk1 V c 2 t1_0 = V c main_arg4
    ∧ iblk1 V c 3 t1_0 = V c main_arg0
    ∧ iblk1 V c 4 t1_0 = V c main_v2
    ∧ iblk1 V c 5 t1_0 = V c main_arg5
    ∧ iblk1 V c 6 t1_0 = V c main_v12
    ∧ iblk1 V c 7 t1_0 = V c main_arg7
    ∧ iblk1 V c 8 t1_0 = V c main_v13
    ∧ iblk1 V c 9 t1_0 = V c main_arg9
    ∧ iblk1 V c 10 t1_0 = V c main_v14
    ∧ iblk1 V c 11 t1_0 = V c main_arg11
    ∧ iblk1 V c 12 t1_0 = V c main_v15
    ∧ iblk1 V c 13 t1_0 = V c main_arg13
    ∧ iblk1 V c 14 t1_0 = V c main_v16
    ∧ iblk1 V c 15 t1_0 = V c main_arg15
    ∧ iblk1 V c 16 t1_0 = V c main_v17
    ∧ iblk1 V c 17 t1_0 = V c main_arg17
    ∧ iblk1 V c 18 t1_0 = V c main_v18 := by
  refine ⟨?_, ?_, ?_, ?_, ?_, ?_, ?_, ?_, ?_, ?_, ?_, ?_, ?_, ?_, ?_, ?_, ?_, ?_, ?_⟩
  all_goals blk_ext! [iblk1]
  all_goals first
    | rfl
    | exact Nat.zero_add _

/-- The second kernel leaves the atom types. -/
theorem region1_19 : (dat1 V c).arrAt 19 cfg1.N
    = smax (affo (softv (affj (affv (softv (affv (k1_pay2 (F := Ideal) (V c main_v4) (V c main_v11) (V c main_arg4)) (V c main_arg5) (V c main_v12))) (V c main_arg7) (V c main_v13))
        (spK (V c main_v4) (V c main_arg0) (V c main_v2) (V c main_arg9) (V c main_v14)) (V c main_arg11) (V c main_v15))) (V c main_arg13) (V c main_v16)) := by
  refine (dat1 V c).arrAt_eq_of_after_last 19 t1_0 (by decide +kernel) _ fun j => ?_
  blk_simp
  rw [after1_19, out19_eq]
  obtain ⟨h0, h1, h2, h3, h4, h5, h6, h7, h8, h9, h10, h11, h12, h13, h14, -⟩ := blk1 V c
  rw [h0, h1, h2, h3, h4, h5, h6, h7, h8, h9, h10, h11, h12, h13, h14]

/-- The second kernel leaves the termination probability. -/
theorem region1_20 : (dat1 V c).arrAt 20 cfg1.N
    = logistic (afft (softv (affv (k1_pay2 (F := Ideal) (V c main_v4) (V c main_v11) (V c main_arg4)) (V c main_arg15) (V c main_v17))) (V c main_arg17) (V c main_v18)) := by
  refine (dat1 V c).arrAt_eq_of_after_last 20 t1_0 (by decide +kernel) _ fun j => ?_
  blk_simp
  rw [after1_20, out20_eq]
  obtain ⟨h0, h1, h2, -, -, -, -, -, -, -, -, -, -, -, -, h15, h16, h17, h18⟩ := blk1 V c
  rw [h0, h1, h2, h15, h16, h17, h18]

end Knn

end
-- ==== Proof.KRun.lean ====
/- The kernel's run: it terminates with every buffer outside the kernels' own at the contents the segments leave. -/
module

public import proofs.«01_k».proof.Proof.KRegion
public import proofs.«01_k».proof.Proof.KHost

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Knn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every unscoped buffer at the last boundary's contents. -/
theorem ends : θ_run (defs (F := Ideal)) (onTc (τ := τ) (main (F := Ideal))) ⟨m, fun _ => 0, ρ⟩ (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

variable (c : Dev nD)

/-- The context vector, of the launch memory. -/
def ctxK : FVec Ideal S1x512 .f32 :=
  k1_pay2 (F := Ideal) (featP (m ((c : Thread nD τ).loc main_arg2))) (cntArr (m ((c : Thread nD τ).loc main_arg3)) (posT (m ((c : Thread nD τ).loc main_arg1))) loRow) (m ((c : Thread nD τ).loc main_arg4))

/-- The pooled vector's head, of the launch memory. -/
def headK : FVec Ideal S1x512 .f32 :=
  spK (featP (m ((c : Thread nD τ).loc main_arg2))) (m ((c : Thread nD τ).loc main_arg0)) (posT (m ((c : Thread nD τ).loc main_arg1))) (m ((c : Thread nD τ).loc main_arg9)) (shapeCast S1x512 (m ((c : Thread nD τ).loc main_arg10) : FVec Ideal S512 .f32) shapeCasts_S512_S1x512 : FVec Ideal S1x512 .f32)

/-- An argument at the second kernel's entry is as launched. -/
theorem V3_arg (b : Ref sig .tc) (hb : b ∈ argRefs) : V3 m ρ c b = m ((c : Thread nD τ).loc b) := W3_args m ρ c b hb

/-- The counts at the second kernel's entry. -/
theorem V3_counts : V3 m ρ c main_v11 = cntArr (m ((c : Thread nD τ).loc main_arg3)) (posT (m ((c : Thread nD τ).loc main_arg1))) loRow :=
  (W3_v11 m ρ c).trans ((region0 (V1 m ρ) c).trans (by
    rw [show V1 m ρ c main_arg3 = m ((c : Thread nD τ).loc main_arg3) from W1_args m ρ c main_arg3 (by decide),
      show V1 m ρ c main_v2 = _ from W1_v2 m ρ c, show V1 m ρ c main_v10 = _ from W1_v10 m ρ c]))

/-- The context vector at the second kernel's entry. -/
theorem V3_ctx : k1_pay2 (F := Ideal) (V3 m ρ c main_v4) (V3 m ρ c main_v11) (V3 m ρ c main_arg4) = ctxK m c := by
  rw [V3_counts, V3_arg m ρ c main_arg4 (by decide), show V3 m ρ c main_v4 = _ from W3_v4 m ρ c]
  rfl

/-- The pooled vector's head at the second kernel's entry. -/
theorem V3_head : spK (V3 m ρ c main_v4) (V3 m ρ c main_arg0) (V3 m ρ c main_v2) (V3 m ρ c main_arg9) (V3 m ρ c main_v14) = headK m c := by
  rw [V3_arg m ρ c main_arg0 (by decide), V3_arg m ρ c main_arg9 (by decide), show V3 m ρ c main_v4 = _ from W3_v4 m ρ c,
    show V3 m ρ c main_v2 = _ from W3_v2 m ρ c, show V3 m ρ c main_v14 = _ from (W3_biases m ρ c).2.2.1]
  rfl

/-- A reshaped row reads the row's entries. -/
theorem row_unflat (v : FVec Ideal S1x32 .f32) (j : Fin 32) : (shapeCast S32 v shapeCasts_S1x32_S32 : FVec Ideal S32 .f32) (ix1 j) = v (ix2 0 j) := by pointwise

/-- A reshaped single entry is that entry. -/
theorem one_unflat (v : FVec Ideal S1x1 .f32) : (shapeCast S1 v shapeCasts_S1x1_S1 : FVec Ideal S1 .f32) (ix1 0) = v (ix2 0 0) := by pointwise

/-- A bias made a row reads the bias. -/
theorem row512 (b : FVec Ideal S512 .f32) (j : Fin 512) : (shapeCast S1x512 b shapeCasts_S512_S1x512 : FVec Ideal S1x512 .f32) (ix2 0 j) = b (ix1 j) := by pointwise

/-- The same, of the class bias. -/
theorem row32 (b : FVec Ideal S32 .f32) (j : Fin 32) : (shapeCast S1x32 b shapeCasts_S32_S1x32 : FVec Ideal S1x32 .f32) (ix2 0 j) = b (ix1 j) := by pointwise

/-- The same, of the single bias. -/
theorem row1 (b : FVec Ideal S1 .f32) : (shapeCast S1x1 b shapeCasts_S1_S1x1 : FVec Ideal S1x1 .f32) (ix2 0 0) = b (ix1 0) := by pointwise

/-- The first result, entry by entry. -/
theorem v20_apply (j : Fin 32) : (W5 m ρ c (Proc.devRef .tc main_v20) : FVec Ideal S32 .f32) (ix1 j)
    = atomType (fun i => ctxK m c (ix2 0 i)) (fun i => headK m c (ix2 0 i))
        (fun i j => (m ((c : Thread nD τ).loc main_arg5) : FVec Ideal S512x512 .f32) (ix2 i j)) (fun j => (m ((c : Thread nD τ).loc main_arg6) : FVec Ideal S512 .f32) (ix1 j))
        (fun i j => (m ((c : Thread nD τ).loc main_arg7) : FVec Ideal S512x512 .f32) (ix2 i j)) (fun j => (m ((c : Thread nD τ).loc main_arg8) : FVec Ideal S512 .f32) (ix1 j))
        (fun i j => (m ((c : Thread nD τ).loc main_arg11) : FVec Ideal S1024x512 .f32) (ix2 i j)) (fun j => (m ((c : Thread nD τ).loc main_arg12) : FVec Ideal S512 .f32) (ix1 j))
        (fun i j => (m ((c : Thread nD τ).loc main_arg13) : FVec Ideal S512x32 .f32) (ix2 i j)) (fun j => (m ((c : Thread nD τ).loc main_arg14) : FVec Ideal S32 .f32) (ix1 j)) j := by
  rw [W5_v20, row_unflat, W4_v19_0, region1_19, V3_ctx, V3_head, V3_arg m ρ c main_arg5 (by decide), V3_arg m ρ c main_arg7 (by decide), V3_arg m ρ c main_arg11 (by decide), V3_arg m ρ c main_arg13 (by decide),
    show V3 m ρ c main_v12 = _ from (W3_biases m ρ c).1, show V3 m ρ c main_v13 = _ from (W3_biases m ρ c).2.1,
    show V3 m ρ c main_v15 = _ from (W3_biases m ρ c).2.2.2.1, show V3 m ρ c main_v16 = _ from (W3_biases m ρ c).2.2.2.2.1, atomType_eq]
  simp only [row512, row32]

/-- The second result. -/
theorem v21_apply : (W5 m ρ c (Proc.devRef .tc main_v21) : FVec Ideal S1 .f32) (ix1 0)
    = terminate (fun i => ctxK m c (ix2 0 i))
        (fun i j => (m ((c : Thread nD τ).loc main_arg15) : FVec Ideal S512x512 .f32) (ix2 i j)) (fun j => (m ((c : Thread nD τ).loc main_arg16) : FVec Ideal S512 .f32) (ix1 j))
        (fun i => (m ((c : Thread nD τ).loc main_arg17) : FVec Ideal S512x1 .f32) (ix2 i 0)) ((m ((c : Thread nD τ).loc main_arg18) : FVec Ideal S1 .f32) (ix1 0)) := by
  rw [W5_v21, one_unflat, W4_v19_1, region1_20, V3_ctx, V3_arg m ρ c main_arg15 (by decide), V3_arg m ρ c main_arg17 (by decide),
    show V3 m ρ c main_v17 = _ from (W3_biases m ρ c).2.2.2.2.2.1, show V3 m ρ c main_v18 = _ from (W3_biases m ρ c).2.2.2.2.2.2, terminate_eq]
  simp only [row512, row1]

end Knn

end
-- ==== Proof.Sorted.lean ====
/- The stable sort of a reference's top-k is the order by distance and then by index: the position it puts at place `r`
   is the one of rank `r`. -/
module

public import Idealize.ShloMosaic.Lib.SortPrefix
public import proofs.«01_k».proof.Proof.Rank

@[expose] public section

noncomputable section

open Classical Idealize.ShloMosaic

namespace Knn

variable {n : ℕ}

/-- Two comparators that agree on what is inserted before the new element insert it at the same place. -/
theorem insertBefore_congr {ι : Type} (B B' : ι → ι → Bool) (a : ι) (l : List ι) (h : ∀ b ∈ l, B b a = B' b a) :
    insertBefore B a l = insertBefore B' a l := by
  induction l with
  | nil => rfl
  | cons b l ih =>
    simp only [insertBefore, h b (List.mem_cons_self ..), ih fun c hc => h c (List.mem_cons_of_mem _ hc)]

/-- On an increasing list of positions, sorting stably by the distance is sorting by distance and then position. -/
theorem stableSort_before (d : Fin n → EReal) (B : Fin n → Fin n → Bool) (hB : ∀ i j, B i j = true ↔ d i < d j)
    (l : List (Fin n)) (hl : l.Pairwise (· < ·)) :
    stableSort B l = stableSort (fun i j => decide (Before d i j)) l := by
  induction l with
  | nil => rfl
  | cons a l ih =>
    rw [List.pairwise_cons] at hl
    simp only [stableSort, ih hl.2]
    refine insertBefore_congr _ _ _ _ fun b hb => ?_
    have hab := hl.1 b ((perm_stableSort _ l).mem_iff.mp hb)
    rw [Bool.eq_iff_iff, hB, decide_eq_true_eq]
    exact ⟨.inl, fun h => h.resolve_right fun h' => lt_asymm h'.2 hab⟩

/-- The order by distance and then by index is a strict total order. -/
theorem strictTotal (d : Fin n → EReal) : StrictTotalBefore fun i j : Fin n => decide (Before d i j) where
  irrefl a := by simp [before_irrefl]
  trans a b c h h' := by
    rw [decide_eq_true_eq] at *
    exact before_trans d h h'
  total a b h := by
    rw [decide_eq_true_eq, decide_eq_true_eq]
    exact before_total d h

/-- The position a stable sort by distance puts at place `r` has rank `r`. -/
theorem rank_sortedFrom (d : Fin n → EReal) (B : Fin n → Fin n → Bool) (hB : ∀ i j, B i j = true ↔ d i < d j) (r : Fin n) :
    rank d (sortedFrom B r) = r := by
  have hs : sortPositions n B = sortPositions n fun i j => decide (Before d i j) :=
    stableSort_before d B hB _ (List.pairwise_lt_finRange n)
  have hf : sortedFrom B r = sortedFrom (fun i j => decide (Before d i j)) r := by
    simp only [sortedFrom, List.get_eq_getElem]
    exact List.getElem_of_eq hs _
  choose σ hσ using fun k : Fin n => exists_rank d k.isLt
  have := (strictTotal d).sortedFrom_eq_of_prefix le_rfl σ
    (fun a b h => Fin.ext (by rw [← hσ a, ← hσ b, h]))
    (fun i j hij => by
      rw [decide_eq_false_iff_not]
      intro hb
      have := rank_lt_rank d hb
      rw [hσ, hσ] at this
      exact lt_asymm this hij)
    (fun i p hp => absurd (rank_inj d (hσ ⟨rank d p, rank_lt d p⟩)) (hp _)) r
  rw [hf]
  have e : Fin.castLE le_rfl r = r := rfl
  rw [e] at this
  rw [this, hσ]

end Knn

end
-- ==== Proof.RefTake.lean ====
/- The reference's two selections, read by their mathematics: a top-k reads the atoms in order of rank, and a take at
   indices in range reads the features' rows at those atoms. -/
module

public import proofs.«01_k».proof.Proof.Gen.ReferenceIdeal
public import proofs.«01_k».proof.Proof.Sorted
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Knn

/-- The atoms of a row of distances in order of rank. -/
def nth {n : ℕ} (d : Fin n → EReal) (k : Fin n) : Fin n :=
  sortedFrom (fun a b => FloatOps.cmpfTotal (F := Ideal) (φ := .f32) .gt (-(d a) : EReal) (-(d b) : EReal) == 1#1) k

/-- The atom at place `k` has rank `k`. -/
theorem rank_nth {n : ℕ} (d : Fin n → EReal) (k : Fin n) : rank d (nth d k) = k := by
  refine rank_sortedFrom d _ (fun i j => ?_) k
  change (Ideal.cmp .ogt (-(d i)) (-(d j)) == 1#1) = true ↔ _
  by_cases h : d i < d j <;> simp [Ideal.cmp, EReal.neg_lt_neg_iff, h]

/-- The place `k` in a row of top-k entries, among all the row's places. -/
def place {K N : ℕ} (h : K ≤ N) (k : Fin K) : Fin N := ⟨k.val, lt_of_lt_of_le k.isLt h⟩

/-- A stable sort of a rank-2 array with its indices along the last axis, greater first, where the array is the negated
    distances: at each place, the negated distance and the index of the atom of that rank. -/
theorem sort2_apply {A N : ℕ} (x : FVec Ideal ⟨2, ![A, N]⟩ .f32) (d : Fin A → Fin N → EReal)
    (hx : ∀ r j, x (ix2 r j) = -(d r j)) (hd1 : (1 : ℕ) < (⟨2, ![A, N]⟩ : Shape).rank) (r : Fin A) (j : Fin N) :
    (Host.sort2 ⟨2, ![A, N]⟩ 1 (fun l r => FloatOps.cmpfTotal (F := Ideal) (φ := .f32) .gt l.1 r.1) x
      (iotaInDim ⟨2, ![A, N]⟩ 32 ⟨1, hd1⟩)).1 (ix2 r j) = -(d r (nth (d r) j)) ∧
    (Host.sort2 ⟨2, ![A, N]⟩ 1 (fun l r => FloatOps.cmpfTotal (F := Ideal) (φ := .f32) .gt l.1 r.1) x
      (iotaInDim ⟨2, ![A, N]⟩ 32 ⟨1, hd1⟩)).2 (ix2 r j) = BitVec.ofNat 32 (nth (d r) j).val := by
  have hal : ∀ a : Fin N, Shape.Idx.along (s := ⟨2, ![A, N]⟩) (ix2 r j) ⟨1, hd1⟩ a = ix2 r a := by
    intro a
    funext b
    match b with
    | ⟨0, _⟩ => rfl
    | ⟨1, _⟩ => rfl
  have hB : (fun a b : Fin N => FloatOps.cmpfTotal (F := Ideal) (φ := .f32) .gt (x (Shape.Idx.along (s := ⟨2, ![A, N]⟩) (ix2 r j) ⟨1, hd1⟩ a))
        (x (Shape.Idx.along (s := ⟨2, ![A, N]⟩) (ix2 r j) ⟨1, hd1⟩ b)) == 1#1)
      = fun a b => FloatOps.cmpfTotal (F := Ideal) (φ := .f32) .gt (-(d r a) : EReal) (-(d r b) : EReal) == 1#1 := by
    funext a b
    rw [hal, hal, hx, hx]
  unfold Host.sort2
  rw [dif_pos hd1]
  refine ⟨?_, ?_⟩
  · exact (congrArg (fun B : Fin N → Fin N → Bool => x (Shape.Idx.along (s := ⟨2, ![A, N]⟩) (ix2 r j) ⟨1, hd1⟩ (sortedFrom B j))) hB).trans
      ((congrArg x (hal (nth (d r) j))).trans (hx _ _))
  · exact congrArg (fun B : Fin N → Fin N → Bool => BitVec.ofNat 32 (sortedFrom B j).val) hB

/-- What a top-k of negated distances returns at place `k` of a row: the negated distance and the index of the atom of
    rank `k`. -/
theorem topK_apply {A N K : ℕ} (hK : K ≤ N) (h : (⟨2, ![A, N]⟩ : Shape).Slices (fun _ => 0) ⟨2, ![A, K]⟩)
    (x : FVec Ideal ⟨2, ![A, N]⟩ .f32) (d : Fin A → Fin N → EReal) (hx : ∀ r j, x (ix2 r j) = -(d r j)) (r : Fin A) (k : Fin K) :
    (Host.topK ⟨2, ![A, K]⟩ 1 (FloatOps.cmpfTotal (F := Ideal) (φ := .f32) .gt) x h).1 (ix2 r k) = -(d r (nth (d r) (place hK k))) ∧
    (Host.topK ⟨2, ![A, K]⟩ 1 (FloatOps.cmpfTotal (F := Ideal) (φ := .f32) .gt) x h).2 (ix2 r k)
      = BitVec.ofNat 32 (nth (d r) (place hK k)).val := by
  have hd1 : (1 : ℕ) < (⟨2, ![A, N]⟩ : Shape).rank := Nat.one_lt_two
  have := sort2_apply x d hx hd1 r (place hK k)
  have hi : (fun a : Fin 2 => (⟨0 + ((ix2 r k : (⟨2, ![A, K]⟩ : Shape).Idx) (a.cast h.1.symm)).val,
      Nat.lt_of_lt_of_le (Nat.add_lt_add_left ((ix2 r k : (⟨2, ![A, K]⟩ : Shape).Idx) _).isLt _) (h.2 a)⟩ : Fin ((⟨2, ![A, N]⟩ : Shape).size a)))
      = ix2 r (place hK k) := by
    funext a
    match a with
    | ⟨0, _⟩ => exact Fin.ext (Nat.zero_add _)
    | ⟨1, _⟩ => exact Fin.ext (Nat.zero_add _)
  unfold Host.topK extractStridedSlice
  refine ⟨?_, ?_⟩
  · refine Eq.trans ?_ this.1
    exact congrArg (Host.sort2 ⟨2, ![A, N]⟩ 1 (fun l r => FloatOps.cmpfTotal (F := Ideal) (φ := .f32) .gt l.1 r.1) x
      (iotaInDim ⟨2, ![A, N]⟩ 32 ⟨1, hd1⟩)).1 hi
  · refine Eq.trans ?_ this.2
    exact congrArg (Host.sort2 ⟨2, ![A, N]⟩ 1 (fun l r => FloatOps.cmpfTotal (F := Ideal) (φ := .f32) .gt l.1 r.1) x
      (iotaInDim ⟨2, ![A, N]⟩ 32 ⟨1, hd1⟩)).2 hi

/-- The dimension numbers of a take of rows: operand `[N, C]`, start indices `[R, K, 1]`, result `[R, K, C]`. -/
abbrev rowDims (N C R K : ℕ) (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- The gather of rows, read at an entry whose start index is an atom's: that atom's row. -/
theorem gather_apply {N C R K : ℕ} {α : Type} (wf : GatherDims.WF ⟨2, ![N, C]⟩ ⟨3, ![R, K, 1]⟩ ⟨3, ![R, K, C]⟩ [2] [0] [] [0] [] 2 ![1, C])
    (x : (⟨2, ![N, C]⟩ : Shape).Idx → α) (w : IVec ⟨3, ![R, K, 1]⟩ 32) (r : Fin R) (k : Fin K) (c : Fin C) (σ : Fin N)
    (h : (w (ix3 r k 0)).toInt.toNat = σ.val) : Host.gather (rowDims N C R K wf) x w (ix3 r k c) = x (ix2 σ c) := by
  unfold Host.gather
  congr 1
  funext a
  refine Fin.ext ?_
  match a with
  | ⟨0, _⟩ =>
    change (rowDims N C R K wf).start (ix3 r k c) w 0 + (rowDims N C R K wf).batchCoord (ix3 r k c) 0 + (rowDims N C R K wf).offCoord (ix3 r k c) 0 = σ.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N C R K wf).startIndexMap from List.mem_singleton.mpr rfl)]
    have hsi : (rowDims N C R K wf).siIdx (ix3 r k c) ⟨List.idxOf (0 : Fin 2) (rowDims N C R K wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, h]
    have := σ.isLt
    change min σ.val (N - 1) + 0 + 0 = σ.val
    omega
  | ⟨1, _⟩ =>
    change (rowDims N C R K wf).start (ix3 r k c) w 1 + (rowDims N C R K wf).batchCoord (ix3 r k c) 1 + (rowDims N C R K wf).offCoord (ix3 r k c) 1 = c.val
    rw [GatherDims.batchCoord_eq_zero _ _ _ List.not_mem_nil]
    unfold GatherDims.start
    rw [dif_neg (show (1 : Fin 2) ∉ (rowDims N C R K wf).startIndexMap from
      fun h => Nat.one_ne_zero (congrArg Fin.val (List.mem_singleton.mp h)))]
    simp only [Nat.zero_add]
    rfl

/-- An atom's index as a word, read signed, is the index. -/
theorem toInt_atom (j : Fin 10000) : (BitVec.ofNat 32 j.val).toInt = j.val := by
  have := j.isLt
  rw [BitVec.toInt_eq_toNat_of_lt] <;> simp only [BitVec.toNat_ofNat] <;> omega

/-- An atom's index is not negative. -/
theorem atom_slt (j : Fin 10000) : IntOp.cmpi .slt (BitVec.ofNat 32 j.val) 0#32 = 0#1 := by
  have : (BitVec.ofNat 32 j.val).slt 0#32 = false := by
    simp only [BitVec.slt, toInt_atom, decide_eq_false_iff_not]
    simp
  simp [IntOp.cmpi, this]

/-- An atom's index is at least zero. -/
theorem atom_sge (j : Fin 10000) : IntOp.cmpi .sge (BitVec.ofNat 32 j.val) 0#32 = 1#1 := by
  have : (0#32).sle (BitVec.ofNat 32 j.val) = true := by
    simp only [BitVec.sle, toInt_atom, decide_eq_true_eq]
    simp
  simp [IntOp.cmpi, this]

/-- An atom's index is at most the last. -/
theorem atom_sle (j : Fin 10000) : IntOp.cmpi .sle (BitVec.ofNat 32 j.val) 9999#32 = 1#1 := by
  have hj := j.isLt
  have : (BitVec.ofNat 32 j.val).sle 9999#32 = true := by
    simp only [BitVec.sle, toInt_atom, decide_eq_true_eq]
    rw [show (9999#32).toInt = 9999 from rfl]
    omega
  simp [IntOp.cmpi, this]

/-- The start indices of the take of eight. -/
def wrap8 (idx : IVec S2000x8 32) : IVec S2000x8x1 32 :=
  broadcastInDim S2000x8x1 ![0, 1] bcast_S2000x8_S2000x8x1_0_1
    (select (cmpi .slt idx (broadcastInDim S2000x8 ![] bcast_S_S2000x8 (constantI S_ 32 0#32)))
      (addi idx (broadcastInDim S2000x8 ![] bcast_S_S2000x8 (constantI S_ 32 10000#32))) idx)

/-- The take of eight rows per row. -/
def take8 (f : FVec Ideal S10000x256 .f32) (w : IVec S2000x8x1 32) : FVec Ideal S2000x8x256 .f32 :=
  select (broadcastInDim S2000x8x256 ![0, 1] bcast_S2000x8_S2000x8x256_0_1 (Host.reduce IntOp.andi (andi (cmpi .sge w (broadcastInDim S2000x8x1 ![] bcast_S_S2000x8x1 (constantI S_ 32 0#32))) (cmpi .sle w (broadcastInDim S2000x8x1 ![0, 1, 2] bcast_S1x1x1_S2000x8x1_0_1_2 (broadcastInDim S1x1x1 ![2] bcast_S1_S1x1x1_2 (constantI S1 32 9999#32))))) (constantI S_ 1 1#1) reducesTo_S2000x8x1_S2000x8_d2 h_S_)) (Host.gather gather_S10000x256_S2000x8x1_S2000x8x256_2_0_n_n_0_2_1256 f w) (broadcastInDim S2000x8x256 ![] bcast_S_S2000x8x256 (constant S_ .f32 0x7FC00000#32))

/-- The start indices at an atom's index are that index. -/
theorem wrap8_apply (idx : IVec S2000x8 32) (r : Fin 2000) (k : Fin 8) (σ : Fin 10000) (h : idx (ix2 r k) = BitVec.ofNat 32 σ.val) :
    wrap8 idx (ix3 r k 0) = BitVec.ofNat 32 σ.val := by
  pointwise [wrap8]
  rw [h, atom_slt]
  simp [Scalar.select]

/-- The take at an atom's index reads the features' row there. -/
theorem take8_apply (f : FVec Ideal S10000x256 .f32) (w : IVec S2000x8x1 32) (r : Fin 2000) (k : Fin 8) (c : Fin 256) (σ : Fin 10000)
    (h : w (ix3 r k 0) = BitVec.ofNat 32 σ.val) : take8 f w (ix3 r k c) = f (ix2 σ c) := by
  pointwise [take8]
  rw [show (Finset.univ : Finset (Fin 1)) = {0} from rfl, Finset.fold_singleton, h, atom_sge, atom_sle]
  refine Eq.trans ?_ (gather_apply gather_S10000x256_S2000x8x1_S2000x8x256_2_0_n_n_0_2_1256_wf f w r k c σ (by rw [h, toInt_atom]; rfl))
  rfl

/-- The start indices of the take of sixteen. -/
def wrap16 (idx : IVec S1x16 32) : IVec S1x16x1 32 :=
  broadcastInDim S1x16x1 ![0, 1] bcast_S1x16_S1x16x1_0_1
    (select (cmpi .slt idx (broadcastInDim S1x16 ![] bcast_S_S1x16 (constantI S_ 32 0#32)))
      (addi idx (broadcastInDim S1x16 ![] bcast_S_S1x16 (constantI S_ 32 10000#32))) idx)

/-- The take of sixteen rows per row. -/
def take16 (f : FVec Ideal S10000x256 .f32) (w : IVec S1x16x1 32) : FVec Ideal S1x16x256 .f32 :=
  select (broadcastInDim S1x16x256 ![0, 1] bcast_S1x16_S1x16x256_0_1 (Host.reduce IntOp.andi (andi (cmpi .sge w (broadcastInDim S1x16x1 ![] bcast_S_S1x16x1 (constantI S_ 32 0#32))) (cmpi .sle w (broadcastInDim S1x16x1 ![0, 1, 2] bcast_S1x1x1_S1x16x1_0_1_2 (broadcastInDim S1x1x1 ![2] bcast_S1_S1x1x1_2 (constantI S1 32 9999#32))))) (constantI S_ 1 1#1) reducesTo_S1x16x1_S1x16_d2 h_S_)) (Host.gather gather_S10000x256_S1x16x1_S1x16x256_2_0_n_n_0_2_1256 f w) (broadcastInDim S1x16x256 ![] bcast_S_S1x16x256 (constant S_ .f32 0x7FC00000#32))

/-- The start indices at an atom's index are that index. -/
theorem wrap16_apply (idx : IVec S1x16 32) (k : Fin 16) (σ : Fin 10000) (h : idx (ix2 0 k) = BitVec.ofNat 32 σ.val) :
    wrap16 idx (ix3 0 k 0) = BitVec.ofNat 32 σ.val := by
  pointwise [wrap16]
  rw [h, atom_slt]
  simp [Scalar.select]

/-- The take at an atom's index reads the features' row there. -/
theorem take16_apply (f : FVec Ideal S10000x256 .f32) (w : IVec S1x16x1 32) (k : Fin 16) (c : Fin 256) (σ : Fin 10000)
    (h : w (ix3 0 k 0) = BitVec.ofNat 32 σ.val) : take16 f w (ix3 0 k c) = f (ix2 σ c) := by
  pointwise [take16]
  rw [show (Finset.univ : Finset (Fin 1)) = {0} from rfl, Finset.fold_singleton, h, atom_sge, atom_sle]
  refine Eq.trans ?_ (gather_apply gather_S10000x256_S1x16x1_S1x16x256_2_0_n_n_0_2_1256_wf f w 0 k c σ (by rw [h, toInt_atom]; rfl))
  rfl

end Knn

end
-- ==== Proof.Near.lean ====
/- Distances of positions within reach of the origin: the expanded form is the distance, and a far atom is farther than any of them. -/
module

public import proofs.«01_k».proof.Proof.Spec
public import proofs.«01_k».proof.Proof.Rank
public import proofs.«01_k».proof.Proof.RefTake

@[expose] public section

noncomputable section

open Idealize.ShloMosaic

namespace Knn

/-- A point whose coordinates are reals of size at most 300000. -/
def Near (a : Fin 3 → EReal) : Prop := ∃ α : Fin 3 → ℝ, a = (fun k => (α k : EReal)) ∧ ∀ k, |α k| ≤ 300000

/-- The point every padding row holds. -/
def far : Fin 3 → EReal := fun _ => ((1000000 : ℝ) : EReal)

/-- An extended real whose size is at most a real is a real of that size. -/
theorem real_of_abs {x : EReal} {b : ℝ} (h : max x (-x) ≤ (b : EReal)) : ∃ r : ℝ, x = r ∧ |r| ≤ b := by
  induction x using EReal.rec with
  | bot => exact absurd (le_trans (le_max_right _ _) h) (by simp)
  | top => exact absurd (le_trans (le_max_left _ _) h) (by simp)
  | coe r => exact ⟨r, rfl, abs_le'.2 ⟨EReal.coe_le_coe_iff.1 (le_trans (le_max_left _ _) h), EReal.coe_le_coe_iff.1 (by simpa using le_trans (le_max_right _ _) h)⟩⟩

/-- A point is near when every coordinate's size is at most 300000. -/
theorem near_of_abs {a : Fin 3 → EReal} (h : ∀ k, max (a k) (-(a k)) ≤ ((300000 : ℝ) : EReal)) : Near a := by
  choose α hα using fun k => real_of_abs (h k)
  exact ⟨α, funext fun k => (hα k).1, fun k => (hα k).2⟩

/-- The distance of two real points. -/
theorem dist_coe (α β : Fin 3 → ℝ) : dist (fun k => (α k : EReal)) (fun k => (β k : EReal)) = ((∑ k, (α k - β k) * (α k - β k) : ℝ) : EReal) := by
  simp only [dist, Fin.sum_univ_three]; norm_cast

/-- The distance with its square expanded. -/
def expanded (a b : Fin 3 → EReal) : EReal := ((∑ k, a k * a k) + ∑ k, b k * b k) - ((∑ k, a k * b k) + ∑ k, a k * b k)

/-- On real points the expanded form is the distance. -/
theorem expanded_coe (α β : Fin 3 → ℝ) : expanded (fun k => (α k : EReal)) (fun k => (β k : EReal)) = dist (fun k => (α k : EReal)) (fun k => (β k : EReal)) := by
  rw [dist_coe]
  simp only [expanded, Fin.sum_univ_three]
  norm_cast
  ring

/-- An atom's position, or the far point past the last atom. -/
def padded (p : Fin 10000 → Fin 3 → EReal) (j : Fin 10112) : Fin 3 → EReal := if h : j.val < 10000 then p ⟨j.val, h⟩ else far

/-- A padded position is real. -/
theorem padded_real {p : Fin 10000 → Fin 3 → EReal} (hp : ∀ j, Near (p j)) (j : Fin 10112) :
    ∃ β : Fin 3 → ℝ, padded p j = fun k => (β k : EReal) := by
  unfold padded; split
  · obtain ⟨β, h, -⟩ := hp ⟨j.val, by assumption⟩; exact ⟨β, h⟩
  · exact ⟨fun _ => 1000000, rfl⟩

/-- The expanded distance to a padded position is the distance. -/
theorem expanded_padded {a : Fin 3 → EReal} (ha : Near a) {p : Fin 10000 → Fin 3 → EReal} (hp : ∀ j, Near (p j)) (j : Fin 10112) :
    expanded a (padded p j) = dist a (padded p j) := by
  obtain ⟨α, rfl, -⟩ := ha
  obtain ⟨β, hβ⟩ := padded_real hp j
  rw [hβ, expanded_coe]

/-- The distance to a padded position is real. -/
theorem dist_padded_real {a : Fin 3 → EReal} (ha : Near a) {p : Fin 10000 → Fin 3 → EReal} (hp : ∀ j, Near (p j)) (j : Fin 10112) :
    ∃ r : ℝ, dist a (padded p j) = r := by
  obtain ⟨α, rfl, -⟩ := ha
  obtain ⟨β, hβ⟩ := padded_real hp j
  exact ⟨_, by rw [hβ, dist_coe]⟩

/-- A near point is nearer to every near point than to the far one. -/
theorem dist_lt_far {a b : Fin 3 → EReal} (ha : Near a) (hb : Near b) : dist a b < dist a far := by
  obtain ⟨α, rfl, hα⟩ := ha
  obtain ⟨β, rfl, hβ⟩ := hb
  rw [dist_coe, show far = fun k => (((fun _ => 1000000 : Fin 3 → ℝ) k : ℝ) : EReal) from rfl, dist_coe, EReal.coe_lt_coe_iff]
  refine Finset.sum_lt_sum_of_nonempty ⟨0, Finset.mem_univ _⟩ fun k _ => ?_
  have h1 := abs_le.1 (hα k); have h2 := abs_le.1 (hβ k)
  have h3 : |α k - β k| < |α k - 1000000| := by
    rw [abs_of_nonpos (show α k - 1000000 ≤ 0 by linarith)]
    exact abs_lt.2 ⟨by linarith, by linarith⟩
  have h4 := mul_self_lt_mul_self (abs_nonneg _) h3
  simpa only [abs_mul_abs_self] using h4

/-- The ranks among the padded positions: an atom's is its rank among the atoms, a padding row's is past them all. -/
theorem rank_padded {a : Fin 3 → EReal} (ha : Near a) {p : Fin 10000 → Fin 3 → EReal} (hp : ∀ j, Near (p j)) :
    (∀ j : Fin 10000, rank (fun j => dist a (padded p j)) (j.castLE (by omega)) = rank (fun j => dist a (p j)) j)
      ∧ ∀ j : Fin 10112, 10000 ≤ j.val → 10000 ≤ rank (fun j => dist a (padded p j)) j := by
  refine rank_pad (n := 10000) (by omega) (fun j => dist a (p j)) (fun j => dist a (padded p j)) (fun j => ?_) fun i j hj => ?_
  · simp only [padded, Fin.val_castLE, j.isLt, dite_true]
  · show dist a (p i) < dist a (padded p j)
    rw [show padded p j = far from dif_neg (by omega)]
    exact dist_lt_far ha (hp i)

/-- A sum over the padded positions of rank below `K` is the sum over the `K` nearest atoms. -/
theorem sum_padded {a : Fin 3 → EReal} (ha : Near a) {p : Fin 10000 → Fin 3 → EReal} (hp : ∀ j, Near (p j)) {K : ℕ} (hK : K ≤ 10000) (g : Fin 10112 → EReal) :
    (∑ j, if rank (fun j => dist a (padded p j)) j < K then g j else 0)
      = ∑ k : Fin K, g ((nth (fun j => dist a (p j)) (place hK k)).castLE (by omega)) := by
  refine (sum_of_rank (fun j => dist a (padded p j)) (K := K) (by omega) (fun k => (nth (fun j => dist a (p j)) (place hK k)).castLE (by omega)) (fun k => ?_) g).symm
  rw [(rank_padded ha hp).1, rank_nth]
  rfl

end Knn

end
-- ==== Proof.Pads.lean ====
/- The host's padded arrays at an entry, and the row of increasing numbers. -/
module

public import proofs.«01_k».proof.Proof.Consts
public import proofs.«01_k».proof.Proof.KHost
public import proofs.«01_k».proof.Proof.Near
public import Idealize.ShloMosaic.Lib.Pointwise
public import Idealize.ShloMosaic.Lib.TotalOrder

@[expose] public section

set_option maxRecDepth 16384

noncomputable section

open Idealize.ShloMosaic Idealize.ShloMosaic.TcCoe Idealize.SL.Sem
open Cert.KernelIdeal Cert.KernelIdeal.Gen

namespace Knn

/-- The row's entry is the 16-bit pattern counted from `0x4000`. -/
theorem loRow_apply (j : Fin 10112) : loRow (ix2 0 j) = Ideal.ofBits .bf16 (BitVec.ofNat 16 (j.val + 16384)) := by
  pointwise [loRow]
  refine congrArg (Ideal.ofBits .bf16) ?_
  show BitVec.setWidth 16 (BitVec.ofNat 32 j.val + 16384#32) = _
  apply BitVec.eq_of_toNat_eq
  simp [BitVec.toNat_setWidth, BitVec.toNat_add, BitVec.toNat_ofNat]

/-- The positive 16-bit patterns up to that of `⊤` increase with their number. -/
theorem bf16_lt {M N : ℕ} (hM : 16384 ≤ M) (hN : N ≤ 32640) (h : M < N) :
    Ideal.ofBits .bf16 (BitVec.ofNat 16 M) < Ideal.ofBits .bf16 (BitVec.ofNat 16 N) := by
  have hb : ∀ K : ℕ, 16384 ≤ K → K ≤ 32640 → (BitVec.ofNat (8 + 7 + 1) K).toNat = K := fun K h1 h2 => by
    rw [BitVec.toNat_ofNat]; omega
  have hn : ∀ K : ℕ, 16384 ≤ K → K ≤ 32640 → ¬TotalOrder.IsNaN 8 7 (BitVec.ofNat (8 + 7 + 1) K) := fun K h1 h2 hnan => by
    unfold TotalOrder.IsNaN at hnan
    rw [TotalOrder.expo_eq, TotalOrder.frac_eq, hb K h1 h2] at hnan
    omega
  have hs : ∀ K : ℕ, 16384 ≤ K → K ≤ 32640 → (BitVec.ofNat (8 + 7 + 1) K).msb = false := fun K h1 h2 => by
    rw [BitVec.msb_eq_false_iff_two_mul_lt, hb K h1 h2]; omega
  refine (TotalOrder.lt_iff (e := 8) (m := 7) (hn M hM (by omega)) (hn N (by omega) hN) (fun hz => hz.2.2 ?_)).1 ?_
  · rw [hs M hM (by omega), hs N (by omega) hN]
  · rw [TotalOrder.toNat_totalOrderKey, TotalOrder.toNat_totalOrderKey, hs M hM (by omega), hs N (by omega) hN, hb M hM (by omega), hb N (by omega) hN]
    simpa using h

/-- The row increases. -/
theorem loRow_mono : StrictMono fun j : Fin 10112 => (loRow (ix2 0 j) : EReal) := fun i j h => by
  have hj := j.isLt
  show loRow (ix2 0 i) < loRow (ix2 0 j)
  rw [loRow_apply, loRow_apply]
  exact bf16_lt (by omega) (by omega) (by have : i.val < j.val := h; omega)

/-- The row holds no `⊤`. -/
theorem loRow_ne_top (j : Fin 10112) : loRow (ix2 0 j) ≠ (⊤ : EReal) := by
  have hj := j.isLt
  rw [loRow_apply]
  have h := bf16_lt (M := j.val + 16384) (N := 32640) (by omega) (by omega) (by omega)
  exact ne_of_lt (lt_of_lt_of_eq h ofBits_top_bf16)

/-- The padded positions. -/
theorem posT_apply (p : FVec Ideal S10000x3 .f32) (k : Fin 3) (j : Fin 10112) : posT p (ix2 k j) = padded (fun j k => p (ix2 j k)) j k := by
  pointwise [posT]
  rw [ofBits_million_f32]
  unfold padded
  split <;> rfl

/-- The padded features. -/
theorem featP_apply (f : FVec Ideal S10000x256 .f32) (c : Fin 256) (j : Fin 10112) : featP f (ix2 j c) = if h : j.val < 10000 then f (ix2 ⟨j.val, h⟩ c) else (0 : EReal) := by
  pointwise [featP]

/-- An atom's features in the padded array. -/
theorem featP_atom (f : FVec Ideal S10000x256 .f32) (c : Fin 256) (j : Fin 10000) : featP f (ix2 (j.castLE (by omega)) c) = (f (ix2 j c) : EReal) := by
  rw [featP_apply, dif_pos (show (j.castLE (by omega : 10000 ≤ 10112)).val < 10000 from j.isLt)]
  rfl

end Knn

end
-- ==== Proof.KMeet.lean ====
/- The kernel's context and pooled features as sums over the nearest atoms: what the counts and the marked distances amount to. -/
module

public import proofs.«01_k».proof.Proof.KRun
public import proofs.«01_k».proof.Proof.Pads

@[expose] public section

set_option maxRecDepth 16384

noncomputable section

open Idealize.ShloMosaic Idealize.ShloMosaic.TcCoe Idealize.SL.Sem
open Cert.KernelIdeal Cert.KernelIdeal.Gen

namespace Knn

/-- The rows of an array of positions. -/
def rows {n : ℕ} (p : FVec Ideal ⟨2, ![n, 3]⟩ .f32) (j : Fin n) : Fin 3 → EReal := fun k => p (ix2 j k)

/-- A product distributes over a sum of nonnegative terms. -/
theorem sum_mul_of_nonneg {ι : Type*} (s : Finset ι) (f : ι → EReal) (hf : ∀ i, 0 ≤ f i) (x : EReal) : (∑ i ∈ s, f i) * x = ∑ i ∈ s, f i * x := by
  classical
  induction s using Finset.induction_on with
  | empty => simp
  | insert i s hi ih => rw [Finset.sum_insert hi, Finset.sum_insert hi, EReal.right_distrib_of_nonneg (hf i) (Finset.sum_nonneg fun i _ => hf i), ih]

/-- A product with a nonnegative real distributes over every sum. -/
theorem sum_mul_real {ι : Type*} (s : Finset ι) (f : ι → EReal) {x : ℝ} (hx : 0 ≤ x) : (∑ i ∈ s, f i) * (x : EReal) = ∑ i ∈ s, f i * (x : EReal) := by
  classical
  induction s using Finset.induction_on with
  | empty => simp
  | insert i s hi ih =>
    rw [Finset.sum_insert hi, Finset.sum_insert hi, mul_comm, EReal.left_distrib_of_nonneg_of_ne_top (EReal.coe_nonneg.2 hx) (EReal.coe_ne_top x), mul_comm (x : EReal) (f i), mul_comm (x : EReal) (∑ i ∈ s, f i), ih]

/-- A mean of means over groups of eight is the mean over all. -/
theorem mean_of_means {ι : Type*} (s : Finset ι) (f : ι → EReal) :
    Ideal.div (∑ i ∈ s, f i) ((16000 : ℝ) : EReal) = Ideal.div (∑ i ∈ s, Ideal.div (f i) ((8 : ℝ) : EReal)) ((2000 : ℝ) : EReal) := by
  simp only [Ideal.div_coe (show (16000 : ℝ) ≠ 0 by norm_num), Ideal.div_coe (show (8 : ℝ) ≠ 0 by norm_num), Ideal.div_coe (show (2000 : ℝ) ≠ 0 by norm_num)]
  rw [← sum_mul_real s f (by norm_num : (0 : ℝ) ≤ 1 / 8), mul_assoc, ← EReal.coe_mul]
  norm_num

section Counts

variable (p : FVec Ideal S10000x3 .f32) (l : FVec Ideal S2000x3 .f32)

/-- The ligand atom's place in its block. -/
def ligAt (g : Fin 5) (r : Fin 400) : Fin 2000 := ⟨g.val * 400 + r.val, by omega⟩

/-- The first kernel's distances are the distances to the padded positions. -/
theorem dist8_eq (hp : ∀ j, Near (rows p j)) (hl : ∀ r, Near (rows l r)) (g : Fin 5) (r : Fin 400) (j : Fin 10112) :
    dist8 (ligBlock l g) (posT p) (ix2 r j) = dist (rows l (ligAt g r)) (padded (rows p) j) := by
  rw [dist8_apply, ← expanded_padded (hl _) hp]
  simp only [posT_apply]
  rfl

/-- Whether an atom is among the eight nearest of a ligand atom, as a number. -/
def isNear (r : Fin 2000) (j : Fin 10112) : EReal := if rank (fun j => dist (rows l r) (padded (rows p) j)) j < 8 then 1 else 0

/-- It is nonnegative. -/
theorem isNear_nonneg (r : Fin 2000) (j : Fin 10112) : 0 ≤ isNear p l r j := by
  unfold isNear; split <;> simp

/-- The counts: of each atom, how many ligand atoms of the block have it among their eight nearest. -/
theorem cntArr_apply (hp : ∀ j, Near (rows p j)) (hl : ∀ r, Near (rows l r)) (g : Fin 5) (j : Fin 10112) :
    cntArr l (posT p) loRow (ix3 g 0 j) = ∑ r : Fin 400, isNear p l (ligAt g r) j := by
  have hd := dist8_eq p l hp hl g
  refine (counts_apply (ligBlock l g) (posT p) loRow loRow_mono loRow_ne_top (fun r j => ?_) j).trans (Finset.sum_congr rfl fun r _ => ?_)
  · rw [hd]
    obtain ⟨x, hx⟩ := dist_padded_real (hl (ligAt g r)) hp j
    rw [hx]; exact EReal.coe_ne_top x
  · rw [show (fun j : Fin 10112 => dist8 (ligBlock l g) (posT p) (ix2 r j)) = _ from funext (hd r)]
    rfl

/-- The counted features are the sum over the ligand atoms of their eight nearest atoms' features. -/
theorem counted (f : FVec Ideal S10000x256 .f32) (hp : ∀ j, Near (rows p j)) (hl : ∀ r, Near (rows l r)) (c : Fin 256) :
    (∑ j : Fin 10112, ((∑ g : Fin 5, cntArr l (posT p) loRow (ix3 g 0 j)) * featP f (ix2 j c) : EReal))
      = ∑ r : Fin 2000, ∑ k : Fin 8, (f (ix2 (nth (fun j => dist (rows l r) (rows p j)) (place (by omega) k)) c) : EReal) := by
  have h1 : ∀ j : Fin 10112, (∑ g : Fin 5, cntArr l (posT p) loRow (ix3 g 0 j) : EReal) = ∑ r : Fin 2000, isNear p l r j := fun j => by
    rw [Fin.sum_univ_tiles 5 400 rfl fun r : Fin 2000 => isNear p l r j]
    exact Finset.sum_congr rfl fun g _ => cntArr_apply p l hp hl g j
  have h2 : ∀ r : Fin 2000, (∑ j : Fin 10112, isNear p l r j * (featP f (ix2 j c) : EReal))
      = ∑ k : Fin 8, (f (ix2 (nth (fun j => dist (rows l r) (rows p j)) (place (by omega) k)) c) : EReal) := fun r => by
    have h3 : ∀ j, isNear p l r j * (featP f (ix2 j c) : EReal)
        = if rank (fun j => dist (rows l r) (padded (rows p) j)) j < 8 then (featP f (ix2 j c) : EReal) else 0 := fun j => by
      unfold isNear; split <;> simp
    rw [Finset.sum_congr rfl fun j _ => h3 j, sum_padded (hl r) hp (by omega : 8 ≤ 10000) fun j => (featP f (ix2 j c) : EReal)]
    exact Finset.sum_congr rfl fun k _ => featP_atom f c _
  calc (∑ j : Fin 10112, ((∑ g : Fin 5, cntArr l (posT p) loRow (ix3 g 0 j)) * featP f (ix2 j c) : EReal))
      = ∑ j : Fin 10112, ∑ r : Fin 2000, isNear p l r j * (featP f (ix2 j c) : EReal) :=
        Finset.sum_congr rfl fun j _ => by rw [h1 j]; exact sum_mul_of_nonneg _ _ (fun r => isNear_nonneg p l r j) _
    _ = ∑ r : Fin 2000, ∑ j : Fin 10112, isNear p l r j * (featP f (ix2 j c) : EReal) := Finset.sum_comm
    _ = _ := Finset.sum_congr rfl fun r _ => h2 r

end Counts

section Pool

variable (q : FVec Ideal S1x3 .f32) (p : FVec Ideal S10000x3 .f32)

/-- The query's distances are the distances to the padded positions. -/
theorem distq_eq (j : Fin 10112) : k1_pay3 (F := Ideal) q (posT p) (ix2 0 j) = dist (rows q 0) (padded (rows p) j) := by
  rw [distq_apply]
  simp only [posT_apply, dist, Fin.sum_univ_three]
  rfl

/-- The least padded distance is the nearest atom's. -/
theorem min_padded {a : Fin 3 → EReal} (ha : Near a) {P : Fin 10000 → Fin 3 → EReal} (hP : ∀ j, Near (P j)) :
    (Finset.univ.fold min ⊤ fun j : Fin 10112 => dist a (padded P j)) = dist a (P (nth (fun j => dist a (P j)) 0)) := by
  have hfin : ∀ j : Fin 10112, dist a (padded P j) ≠ ⊤ := fun j => by
    obtain ⟨x, hx⟩ := dist_padded_real ha hP j
    rw [hx]; exact EReal.coe_ne_top x
  have h0 : rank (fun j => dist a (padded P j)) ((nth (fun j => dist a (P j)) 0).castLE (by omega : 10000 ≤ 10112)) = 0 := by
    rw [(rank_padded ha hP).1, rank_nth]; rfl
  refine (marked_min (fun j => dist a (padded P j)) hfin h0 (v := fun j => dist a (padded P j)) (fun j => by rw [marked_zero]) (fold_min_le _) (fold_min_mem _)).1.trans ?_
  simp only [padded, Fin.val_castLE, Fin.is_lt, dite_true]

/-- The nearest atom's distance is least. -/
theorem nth_zero_le {a : Fin 3 → EReal} (ha : Near a) {P : Fin 10000 → Fin 3 → EReal} (hP : ∀ j, Near (P j)) (j : Fin 10000) :
    dist a (P (nth (fun j => dist a (P j)) 0)) ≤ dist a (P j) := by
  rw [← min_padded ha hP]
  refine (fold_min_le (fun j : Fin 10112 => dist a (padded P j)) (j.castLE (by omega))).trans (le_of_eq ?_)
  simp only [padded, Fin.val_castLE, Fin.is_lt, dite_true]

/-- The greatest negated distance of the nearest sixteen is the nearest's. -/
theorem top_neg {a : Fin 3 → EReal} (ha : Near a) {P : Fin 10000 → Fin 3 → EReal} (hP : ∀ j, Near (P j)) (h16 : 16 ≤ 10000) :
    top (fun k : Fin 16 => -(dist a (P (nth (fun j => dist a (P j)) (place h16 k))))) = -(dist a (P (nth (fun j => dist a (P j)) 0))) := by
  refine le_antisymm (max_le bot_le (Finset.fold_max_le _ |>.2 ⟨bot_le, fun k _ => EReal.neg_le_neg_iff.2 (nth_zero_le ha hP _)⟩)) ?_
  refine le_trans ?_ (le_max_right _ _)
  exact Finset.le_fold_max _ |>.2 (Or.inr ⟨0, Finset.mem_univ _, le_of_eq rfl⟩)

/-- The pooled features: the sixteen nearest atoms' features, weighted. -/
theorem pooled (f : FVec Ideal S10000x256 .f32) (hq : Near (rows q 0)) (hp : ∀ j, Near (rows p j)) (c : Fin 256) (h16 : 16 ≤ 10000)
    (d : Fin 10000 → EReal) (hd : d = fun j => dist (rows q 0) (rows p j)) :
    pool1 (featP f) (weights1 (k1_pay3 (F := Ideal) q (posT p)) ((round1 idxRow)^[16] (k1_pay3 (F := Ideal) q (posT p)))) (ix2 0 c)
      = ∑ k : Fin 16, Ideal.div (Ideal.exp (-(d (nth d (place h16 k))) - top (fun k : Fin 16 => -(d (nth d (place h16 k))))))
          (∑ k : Fin 16, Ideal.exp (-(d (nth d (place h16 k))) - top (fun k : Fin 16 => -(d (nth d (place h16 k))))))
          * (f (ix2 (nth d (place h16 k)) c) : EReal) := by
  subst hd
  set D : Fin 10112 → EReal := fun j => dist (rows q 0) (padded (rows p) j) with hD
  set d : Fin 10000 → EReal := fun j => dist (rows q 0) (rows p j) with hd
  set E : Fin 10112 → EReal := fun j => Ideal.exp (d (nth d 0) - D j) with hE
  have hDr : ∀ j, ∃ x : ℝ, D j = x := dist_padded_real hq hp
  have hDd : ∀ j : Fin 10000, D (j.castLE (by omega)) = d j := fun j => by simp only [hD, hd, padded, Fin.val_castLE, Fin.is_lt, dite_true]
  have hkD : ∀ j : Fin 10112, k1_pay3 (F := Ideal) q (posT p) (ix2 0 j) = D j := distq_eq q p
  have hfin : ∀ j : Fin 10112, k1_pay3 (F := Ideal) q (posT p) (ix2 0 j) ≠ (⊤ : EReal) := fun j => by
    rw [hkD]; obtain ⟨x, hx⟩ := hDr j; rw [hx]; exact EReal.coe_ne_top x
  have hmin : min1 (k1_pay3 (F := Ideal) q (posT p)) = fun i => (d (nth d 0) : EReal) := by
    funext i
    obtain ⟨a, b, rfl⟩ : ∃ (a : Fin 1) (b : Fin 10112), i = ix2 a b := ⟨_, _, eq_ix2 i⟩
    rw [show a = 0 from Subsingleton.elim _ _]
    refine (min1_apply _ _).trans ?_
    rw [show (fun k : Fin 10112 => k1_pay3 (F := Ideal) q (posT p) (ix2 0 k)) = D from funext hkD]
    exact min_padded hq hp
  have hw : ∀ j : Fin 10112, (weights1 (k1_pay3 (F := Ideal) q (posT p)) ((round1 idxRow)^[16] (k1_pay3 (F := Ideal) q (posT p))) (ix2 0 j) : EReal)
      = if rank D j < 16 then E j else 0 := fun j => by
    rw [weights1_apply, rounds1_marked _ hfin 16 (by omega) j, hmin, hkD, show (fun j : Fin 10112 => k1_pay3 (F := Ideal) q (posT p) (ix2 0 j)) = D from funext hkD]
    have := marked_eq_top D (fun j => by rw [← hkD]; exact hfin j) 16 j
    by_cases h : rank D j < 16
    · rw [if_pos (this.2 h), if_pos h]
    · rw [if_neg (fun h' => h (this.1 h')), if_neg h]
  have hex : ∀ k : Fin 16, Ideal.exp (-(d (nth d (place h16 k))) - top (fun k : Fin 16 => -(d (nth d (place h16 k))))) = E ((nth d (place h16 k)).castLE (by omega)) := fun k => by
    rw [top_neg hq hp h16]
    refine congrArg Ideal.exp ?_
    show -(d (nth d (place h16 k))) - -(d (nth d 0)) = d (nth d 0) - D _
    rw [hDd, sub_eq_add_neg, neg_neg, add_comm, ← sub_eq_add_neg]
  have hsum : (∑ j : Fin 10112, if rank D j < 16 then E j else 0) = ∑ k : Fin 16, E ((nth d (place h16 k)).castLE (by omega)) := sum_padded hq hp h16 E
  have hEr : ∀ j, ∃ x : ℝ, 0 < x ∧ E j = x := fun j => by
    obtain ⟨x, hx⟩ := hDr j
    obtain ⟨y, hy⟩ := hDr ((nth d 0).castLE (by omega))
    rw [hDd] at hy
    refine ⟨Real.exp (y - x), Real.exp_pos _, ?_⟩
    show Ideal.exp (d (nth d 0) - D j) = _
    rw [hx, hy, ← EReal.coe_sub]; rfl
  have hW : (∑ k : Fin 16, E ((nth d (place h16 k)).castLE (by omega))) ≠ 0 := by
    refine ne_of_gt (lt_of_lt_of_le ?_ (Finset.single_le_sum (f := fun k : Fin 16 => E ((nth d (place h16 k)).castLE (by omega))) (fun k _ => ?_) (Finset.mem_univ 0)))
    · obtain ⟨x, hx, h⟩ := hEr ((nth d (place h16 0)).castLE (by omega))
      show (0 : EReal) < E _
      rw [h]; exact EReal.coe_pos.2 hx
    · obtain ⟨x, hx, h⟩ := hEr ((nth d (place h16 k)).castLE (by omega))
      show (0 : EReal) ≤ E _
      rw [h]; exact EReal.coe_nonneg.2 hx.le
  rw [pool1_apply, Finset.sum_congr rfl fun k _ => hw k, hsum]
  simp only [hex]
  set W : EReal := ∑ k : Fin 16, E ((nth d (place h16 k)).castLE (by omega)) with hWd
  have ht : ∀ j : Fin 10112, Ideal.div (weights1 (k1_pay3 (F := Ideal) q (posT p)) ((round1 idxRow)^[16] (k1_pay3 (F := Ideal) q (posT p))) (ix2 0 j)) W * (featP f (ix2 j c) : EReal)
      = if rank D j < 16 then Ideal.div (E j) W * (featP f (ix2 j c) : EReal) else 0 := fun j => by
    rw [hw j]
    split
    · rfl
    · rw [Ideal.div, if_neg hW, zero_mul, zero_mul]
  rw [Finset.sum_congr rfl fun j _ => ht j, sum_padded hq hp h16 fun j => Ideal.div (E j) W * (featP f (ix2 j c) : EReal)]
  exact Finset.sum_congr rfl fun k _ => by rw [featP_atom]

end Pool

end Knn

end
-- ==== Proof.RefSide.lean ====
/- The reference's results, read by their mathematics. -/
module

public import proofs.«01_k».proof.Proof.RefTake
public import proofs.«01_k».proof.Proof.Spec
public import proofs.«01_k».proof.Proof.Consts
public import proofs.«01_k».proof.Proof.Gen.ReferenceIdeal.Run

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Knn

/-- The differences of every ligand atom's position with every protein atom's. -/
def diff8 (l : FVec Ideal S2000x3 .f32) (p : FVec Ideal S10000x3 .f32) : FVec Ideal S2000x10000x3 .f32 :=
  subf (broadcastInDim S2000x10000x3 ![0, 1, 2] bcast_S2000x1x3_S2000x10000x3_0_1_2 (broadcastInDim S2000x1x3 ![0, 2] bcast_S2000x3_S2000x1x3_0_2 l)) (broadcastInDim S2000x10000x3 ![0, 1, 2] bcast_S1x10000x3_S2000x10000x3_0_1_2 (broadcastInDim S1x10000x3 ![1, 2] bcast_S10000x3_S1x10000x3_1_2 p))

/-- The negated squared distances of every ligand atom to every protein atom. -/
def neg8 (l : FVec Ideal S2000x3 .f32) (p : FVec Ideal S10000x3 .f32) : FVec Ideal S2000x10000 .f32 :=
  Host.negf (Host.reduceAdd (mulf (diff8 l p) (diff8 l p)) (constant S_ .f32 0x00000000#32) reducesTo_S2000x10000x3_S2000x10000_d2 h_S_)

/-- The negated squared distances, read at an entry. -/
theorem neg8_apply (l : FVec Ideal S2000x3 .f32) (p : FVec Ideal S10000x3 .f32) (r : Fin 2000) (j : Fin 10000) :
    neg8 l p (ix2 r j) = -(dist (fun k => l (ix2 r k)) (fun k => p (ix2 j k))) := by
  pointwise [neg8, diff8]
  rfl

/-- The differences of the query position with every protein atom's. -/
def diff1 (q : FVec Ideal S1x3 .f32) (p : FVec Ideal S10000x3 .f32) : FVec Ideal S1x10000x3 .f32 :=
  subf (broadcastInDim S1x10000x3 ![0, 1, 2] bcast_S1x1x3_S1x10000x3_0_1_2 (broadcastInDim S1x1x3 ![0, 2] bcast_S1x3_S1x1x3_0_2 q)) (broadcastInDim S1x10000x3 ![1, 2] bcast_S10000x3_S1x10000x3_1_2 p)

/-- The negated squared distances of the query position to every protein atom. -/
def neg1 (q : FVec Ideal S1x3 .f32) (p : FVec Ideal S10000x3 .f32) : FVec Ideal S1x10000 .f32 :=
  Host.negf (Host.reduceAdd (mulf (diff1 q p) (diff1 q p)) (constant S_ .f32 0x00000000#32) reducesTo_S1x10000x3_S1x10000_d2 h_S_)

/-- The negated squared distances of the query position, read at an entry. -/
theorem neg1_apply (q : FVec Ideal S1x3 .f32) (p : FVec Ideal S10000x3 .f32) (r : Fin 1) (j : Fin 10000) :
    neg1 q p (ix2 r j) = -(dist (fun k => q (ix2 0 k)) (fun k => p (ix2 j k))) := by
  pointwise [neg1, diff1]
  rfl

/-- The context: the mean over the ligand atoms of the neighbours' mean features, joined with the ligand features. -/
def ctxR (f : FVec Ideal S10000x256 .f32) (n : FVec Ideal S2000x256 .f32) (w : IVec S2000x8x1 32) : FVec Ideal S512 .f32 :=
  Host.divf (Host.reduceAdd (concatenate S2000x512 1 [⟨S2000x256, (Host.divf (Host.reduceAdd (take8 f w) (constant S_ .f32 0x00000000#32) reducesTo_S2000x8x256_S2000x256_d1 h_S_) (broadcastInDim S2000x256 ![] bcast_S_S2000x256 (constant S_ .f32 0x41000000#32)))⟩, ⟨S2000x256, n⟩] concatenates_S2000x256_S2000x256_S2000x512_d1) (constant S_ .f32 0x00000000#32) reducesTo_S2000x512_S512_d0 h_S_) (broadcastInDim S512 ![] bcast_S_S512 (constant S_ .f32 0x44FA0000#32))

/-- The context's first half. -/
theorem ctxR_lo (f : FVec Ideal S10000x256 .f32) (n : FVec Ideal S2000x256 .f32) (w : IVec S2000x8x1 32) (c : Fin 256) :
    ctxR f n w (ix1 ⟨c.val, by omega⟩)
      = Ideal.div (∑ r : Fin 2000, Ideal.div (∑ k : Fin 8, take8 f w (ix3 r k c)) (Ideal.ofBits .f32 0x41000000#32))
          (Ideal.ofBits .f32 0x44FA0000#32) := by
  pointwise [ctxR]

/-- The context's second half. -/
theorem ctxR_hi (f : FVec Ideal S10000x256 .f32) (n : FVec Ideal S2000x256 .f32) (w : IVec S2000x8x1 32) (c : Fin 256) :
    ctxR f n w (ix1 ⟨256 + c.val, by omega⟩)
      = Ideal.div (∑ r : Fin 2000, (n (ix2 r c) : EReal)) (Ideal.ofBits .f32 0x44FA0000#32) := by
  pointwise [ctxR]

/-- The shifted softplus of a vector as the reference writes it. -/
def softR (v : FVec Ideal S512 .f32) : FVec Ideal S512 .f32 :=
  subf (select (cmpf .une (subf v (broadcastInDim S512 ![] bcast_S_S512 (constant S_ .f32 0x00000000#32))) (subf v (broadcastInDim S512 ![] bcast_S_S512 (constant S_ .f32 0x00000000#32)))) (addf v (broadcastInDim S512 ![] bcast_S_S512 (constant S_ .f32 0x00000000#32))) (addf (maximumf v (broadcastInDim S512 ![] bcast_S_S512 (constant S_ .f32 0x00000000#32))) (Host.log1p (Host.exp (Host.negf (Host.absf (subf v (broadcastInDim S512 ![] bcast_S_S512 (constant S_ .f32 0x00000000#32))))))))) (broadcastInDim S512 ![] bcast_S_S512 (id (Host.log (constant S_ .f32 0x40000000#32))))

/-- The shifted softplus of the reference, read at an entry. -/
theorem softR_apply (v : FVec Ideal S512 .f32) (j : Fin 512) : softR v (ix1 j) = soft (v (ix1 j)) := by
  pointwise [softR]
  rw [if_neg (fun h => h rfl)]
  exact congrArg (fun x : EReal => max (v (ix1 j)) 0 + Ideal.log1p (Ideal.exp (-(max (v (ix1 j)) (-(v (ix1 j)))))) - x) log_two

/-- The affine map of the reference, 512 to 512. -/
def affR (v : FVec Ideal S512 .f32) (W : FVec Ideal S512x512 .f32) (b : FVec Ideal S512 .f32) : FVec Ideal S512 .f32 :=
  addf (Host.dotGeneral dot_S512_S512x512_S512_0_0_n_1_n_n none v W) b

/-- The affine map of the reference, read at an entry. -/
theorem affR_apply (v : FVec Ideal S512 .f32) (W : FVec Ideal S512x512 .f32) (b : FVec Ideal S512 .f32) (j : Fin 512) :
    affR v W b (ix1 j) = aff (fun i => v (ix1 i)) (fun i j => W (ix2 i j)) (fun j => b (ix1 j)) j := by
  pointwise [affR]
  rfl

/-- The affine map of the joined vector in the reference. -/
def affjR (a s : FVec Ideal S512 .f32) (W : FVec Ideal S1024x512 .f32) (b : FVec Ideal S512 .f32) : FVec Ideal S512 .f32 :=
  addf (Host.dotGeneral dot_S1024_S1024x512_S512_0_0_n_1_n_n none (concatenate S1024 0 [⟨S512, a⟩, ⟨S512, s⟩] concatenates_S512_S512_S1024_d0) W) b

/-- The affine map of the joined vector in the reference, read at an entry. -/
theorem affjR_apply (a s : FVec Ideal S512 .f32) (W : FVec Ideal S1024x512 .f32) (b : FVec Ideal S512 .f32) (j : Fin 512) :
    affjR a s W b (ix1 j)
      = affJoin (fun i => a (ix1 i)) (fun i => s (ix1 i)) (fun i j => W (ix2 i j)) (fun j => b (ix1 j)) j := by
  pointwise [affjR]
  rfl

/-- The last affine map of the atom-type head in the reference. -/
def affoR (v : FVec Ideal S512 .f32) (W : FVec Ideal S512x32 .f32) (b : FVec Ideal S32 .f32) : FVec Ideal S32 .f32 :=
  addf (Host.dotGeneral dot_S512_S512x32_S32_0_0_n_1_n_n none v W) b

/-- The last affine map of the atom-type head in the reference, read at an entry. -/
theorem affoR_apply (v : FVec Ideal S512 .f32) (W : FVec Ideal S512x32 .f32) (b : FVec Ideal S32 .f32) (j : Fin 32) :
    affoR v W b (ix1 j) = aff (fun i => v (ix1 i)) (fun i j => W (ix2 i j)) (fun j => b (ix1 j)) j := by
  pointwise [affoR]
  rfl

/-- The exponentials of the softmax over a vector of 32. -/
def expR (v : FVec Ideal S32 .f32) : FVec Ideal S32 .f32 :=
  Host.exp (subf v (broadcastInDim S32 ![0] bcast_S1_S32_0 (broadcastInDim S1 ![] bcast_S_S1 (maximumf (constant S_ .f32 0xFF800000#32) (Host.reduce FloatOps.maximumf v (constant S_ .f32 0xFF800000#32) reducesTo_S32_S_d0 h_S_)))))

/-- The softmax over a vector of 32. -/
def smaxR (v : FVec Ideal S32 .f32) : FVec Ideal S32 .f32 :=
  Host.divf (expR v) (broadcastInDim S32 ![0] bcast_S1_S32_0 (broadcastInDim S1 ![] bcast_S_S1 (Host.reduceAdd (expR v) (constant S_ .f32 0x00000000#32) reducesTo_S32_S_d0 h_S_)))

/-- The softmax of the reference, read at an entry. -/
theorem smaxR_apply (v : FVec Ideal S32 .f32) (j : Fin 32) : smaxR v (ix1 j) = softmax (fun j => v (ix1 j)) j := by
  pointwise [smaxR, expR]
  simp only [ofBits_bot_f32]
  rfl

/-- The termination head's end in the reference. -/
def termR (v : FVec Ideal S512 .f32) (W : FVec Ideal S512x1 .f32) (b : FVec Ideal S1 .f32) : FVec Ideal S1 .f32 :=
  Host.divf (broadcastInDim S1 ![] bcast_S_S1 (constant S_ .f32 0x3F800000#32)) (addf (broadcastInDim S1 ![] bcast_S_S1 (constant S_ .f32 0x3F800000#32)) (Host.exp (Host.negf (addf (Host.dotGeneral dot_S512_S512x1_S1_0_0_n_1_n_n none v W) b))))

/-- The termination head's end in the reference, read at its entry. -/
theorem termR_apply (v : FVec Ideal S512 .f32) (W : FVec Ideal S512x1 .f32) (b : FVec Ideal S1 .f32) :
    termR v W b (ix1 0) = Ideal.logistic ((∑ i : Fin 512, (v (ix1 i) * W (ix2 i 0) : EReal)) + b (ix1 0)) := by
  pointwise [termR]
  rfl

/-- The exponentials of the sixteen weights. -/
def exp16 (v : FVec Ideal S1x16 .f32) : FVec Ideal S1x16 .f32 :=
  Host.exp (subf v (broadcastInDim S1x16 ![0, 1] bcast_S1x1_S1x16_0_1 (broadcastInDim S1x1 ![0] bcast_S1_S1x1_0 (maximumf (broadcastInDim S1 ![] bcast_S_S1 (constant S_ .f32 0xFF800000#32)) (Host.reduce FloatOps.maximumf v (constant S_ .f32 0xFF800000#32) reducesTo_S1x16_S1_d1 h_S_)))))

/-- The exponentials of the sixteen weights, read at an entry. -/
theorem exp16_apply (v : FVec Ideal S1x16 .f32) (k : Fin 16) :
    exp16 v (ix2 0 k) = Ideal.exp (v (ix2 0 k) - top (fun k : Fin 16 => v (ix2 0 k))) := by
  pointwise [exp16]
  rw [ofBits_bot_f32]
  rfl

/-- The pooled features of the sixteen nearest atoms. -/
def pool16 (e : FVec Ideal S1x16 .f32) (t : FVec Ideal S1x16x256 .f32) : FVec Ideal S1x256 .f32 :=
  Host.reduceAdd (mulf (broadcastInDim S1x16x256 ![0, 1, 2] bcast_S1x16x1_S1x16x256_0_1_2 (broadcastInDim S1x16x1 ![0, 1] bcast_S1x16_S1x16x1_0_1 (Host.divf e (broadcastInDim S1x16 ![0, 1] bcast_S1x1_S1x16_0_1 (broadcastInDim S1x1 ![0] bcast_S1_S1x1_0 (Host.reduceAdd e (constant S_ .f32 0x00000000#32) reducesTo_S1x16_S1_d1 h_S_)))))) t) (constant S_ .f32 0x00000000#32) reducesTo_S1x16x256_S1x256_d1 h_S_

/-- The pooled features, read at an entry. -/
theorem pool16_apply (e : FVec Ideal S1x16 .f32) (t : FVec Ideal S1x16x256 .f32) (c : Fin 256) :
    pool16 e t (ix2 0 c) = ∑ k : Fin 16, Ideal.div (e (ix2 0 k)) (∑ k : Fin 16, (e (ix2 0 k) : EReal)) * t (ix3 0 k c) := by
  pointwise [pool16]

/-- The spatial vector from the pooled features. -/
def headR (x : FVec Ideal S1x256 .f32) (W : FVec Ideal S256x512 .f32) (b : FVec Ideal S512 .f32) : FVec Ideal S512 .f32 :=
  shapeCast _ (addf (Host.dotGeneral dot_S1x256_S256x512_S1x512_1_0_0_1_n_n none x W) (broadcastInDim S1x512 ![1] bcast_S512_S1x512_1 b)) shapeCasts_S1x512_S512

/-- The spatial vector, read at an entry. -/
theorem headR_apply (x : FVec Ideal S1x256 .f32) (W : FVec Ideal S256x512 .f32) (b : FVec Ideal S512 .f32) (j : Fin 512) :
    headR x W b (ix1 j) = aff (fun i => x (ix2 0 i)) (fun i j => W (ix2 i j)) (fun j => b (ix1 j)) j := by
  pointwise [headR]
  rfl

end Knn

end
-- ==== Proof.RefVal.lean ====
/- The reference's two results as the heads of the context and the spatial vector, and those two at an entry by the atoms of
   least rank. -/
module

public import proofs.«01_k».proof.Proof.RefSide

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Knn

/-- The eight nearest atoms of every ligand atom. -/
def near8 (l : FVec Ideal S2000x3 .f32) (p : FVec Ideal S10000x3 .f32) : IVec S2000x8 32 :=
  (Host.topK S2000x8 1 (FloatOps.cmpfTotal (F := Ideal) (φ := .f32) .gt) (neg8 l p) sliceFits_S2000x10000_S2000x8).2

/-- The sixteen nearest atoms of the query position. -/
def near16 (q : FVec Ideal S1x3 .f32) (p : FVec Ideal S10000x3 .f32) : IVec S1x16 32 :=
  (Host.topK S1x16 1 (FloatOps.cmpfTotal (F := Ideal) (φ := .f32) .gt) (neg1 q p) sliceFits_S1x10000_S1x16).2

/-- The sixteen nearest atoms' negated distances. -/
def vals16 (q : FVec Ideal S1x3 .f32) (p : FVec Ideal S10000x3 .f32) : FVec Ideal S1x16 .f32 :=
  (Host.topK S1x16 1 (FloatOps.cmpfTotal (F := Ideal) (φ := .f32) .gt) (neg1 q p) sliceFits_S1x10000_S1x16).1

/-- The reference's context. -/
def refCtx (p : FVec Ideal S10000x3 .f32) (f : FVec Ideal S10000x256 .f32) (l : FVec Ideal S2000x3 .f32)
    (n : FVec Ideal S2000x256 .f32) : FVec Ideal S512 .f32 :=
  ctxR f n (wrap8 (near8 l p))

/-- The reference's pooled features. -/
def refPool (q : FVec Ideal S1x3 .f32) (p : FVec Ideal S10000x3 .f32) (f : FVec Ideal S10000x256 .f32) : FVec Ideal S1x256 .f32 :=
  pool16 (exp16 (vals16 q p)) (take16 f (wrap16 (near16 q p)))

/-- Eight of ten thousand. -/
theorem topK8_le : 8 ≤ 10000 := by omega
/-- Sixteen of ten thousand. -/
theorem topK16_le : 16 ≤ 10000 := by omega

/-- The context's first half: the mean over the ligand atoms of the eight nearest atoms' mean features. -/
theorem refCtx_lo (p : FVec Ideal S10000x3 .f32) (f : FVec Ideal S10000x256 .f32) (l : FVec Ideal S2000x3 .f32)
    (n : FVec Ideal S2000x256 .f32) (c : Fin 256) :
    refCtx p f l n (ix1 ⟨c.val, by omega⟩)
      = Ideal.div (∑ r : Fin 2000, Ideal.div (∑ k : Fin 8,
            (f (ix2 (nth (fun j => dist (fun x => l (ix2 r x)) (fun x => p (ix2 j x))) (place topK8_le k)) c) : EReal)) ((8 : ℝ) : EReal))
          ((2000 : ℝ) : EReal) := by
  unfold refCtx
  rw [ctxR_lo, ofBits_8_f32, ofBits_2000_f32]
  refine congrArg (fun x => Ideal.div x ((2000 : ℝ) : EReal)) (Finset.sum_congr rfl fun r _ => ?_)
  refine congrArg (fun x => Ideal.div x ((8 : ℝ) : EReal)) (Finset.sum_congr rfl fun k _ => ?_)
  refine take8_apply f _ r k c _ (wrap8_apply _ r k _ ?_)
  exact (topK_apply topK8_le sliceFits_S2000x10000_S2000x8 (neg8 l p)
    (fun r j => dist (fun x => l (ix2 r x)) (fun x => p (ix2 j x))) (neg8_apply l p) r k).2

/-- The context's second half: the ligand features' mean. -/
theorem refCtx_hi (p : FVec Ideal S10000x3 .f32) (f : FVec Ideal S10000x256 .f32) (l : FVec Ideal S2000x3 .f32)
    (n : FVec Ideal S2000x256 .f32) (c : Fin 256) :
    refCtx p f l n (ix1 ⟨256 + c.val, by omega⟩) = Ideal.div (∑ r : Fin 2000, (n (ix2 r c) : EReal)) (Ideal.ofBits .f32 0x44FA0000#32) :=
  ctxR_hi f n _ c

/-- The negated distance and the index at place `k` of the sixteen, by the distances' ranks. -/
theorem near16_apply (q : FVec Ideal S1x3 .f32) (p : FVec Ideal S10000x3 .f32) (d : Fin 10000 → EReal)
    (hd : ∀ j, d j = dist (fun x => q (ix2 0 x)) (fun x => p (ix2 j x))) (k : Fin 16) :
    vals16 q p (ix2 0 k) = -(d (nth d (place topK16_le k))) ∧
    near16 q p (ix2 0 k) = BitVec.ofNat 32 (nth d (place topK16_le k)).val :=
  topK_apply topK16_le sliceFits_S1x10000_S1x16 (neg1 q p) (fun _ => d) (fun r j => by rw [neg1_apply, hd]) 0 k

/-- The pooled features: the sixteen nearest atoms' features, weighted. -/
theorem refPool_apply (q : FVec Ideal S1x3 .f32) (p : FVec Ideal S10000x3 .f32) (f : FVec Ideal S10000x256 .f32) (c : Fin 256)
    (d : Fin 10000 → EReal) (hd : ∀ j, d j = dist (fun x => q (ix2 0 x)) (fun x => p (ix2 j x))) :
    refPool q p f (ix2 0 c)
      = ∑ k : Fin 16, Ideal.div (Ideal.exp (-(d (nth d (place topK16_le k))) - top (fun k : Fin 16 => -(d (nth d (place topK16_le k))))))
          (∑ k : Fin 16, Ideal.exp (-(d (nth d (place topK16_le k))) - top (fun k : Fin 16 => -(d (nth d (place topK16_le k))))))
          * f (ix2 (nth d (place topK16_le k)) c) := by
  have he : ∀ k : Fin 16, (exp16 (vals16 q p) (ix2 0 k) : EReal)
      = Ideal.exp (-(d (nth d (place topK16_le k))) - top (fun k : Fin 16 => -(d (nth d (place topK16_le k))))) := fun k => by
    rw [exp16_apply]
    simp only [fun k => (near16_apply q p d hd k).1]
  have ht : ∀ k : Fin 16, (take16 f (wrap16 (near16 q p)) (ix3 0 k c) : EReal) = f (ix2 (nth d (place topK16_le k)) c) := fun k =>
    take16_apply f _ k c _ (wrap16_apply _ k _ (near16_apply q p d hd k).2)
  unfold refPool
  rw [pool16_apply]
  simp only [he, ht]

/-- The context as the printed program names it. -/
theorem v15_eq (V : Valuation τ sig (Elt Ideal)) : res_main_v15 V = refCtx (V (Proc.devRef .tc main_arg1)) (V (Proc.devRef .tc main_arg2)) (V (Proc.devRef .tc main_arg3)) (V (Proc.devRef .tc main_arg4)) := by
  have hc0 : res_main_call0_v5 V = wrap8 (near8 (V (Proc.devRef .tc main_arg3)) (V (Proc.devRef .tc main_arg1))) := by
    unfold res_main_call0_v5 res_main_indices; rfl
  unfold res_main_v15; rw [hc0]; rfl

/-- The aggregate's first layer as the printed program names it. -/
theorem v17_eq (V : Valuation τ sig (Elt Ideal)) : res_main_v17 V = affR (refCtx (V (Proc.devRef .tc main_arg1)) (V (Proc.devRef .tc main_arg2)) (V (Proc.devRef .tc main_arg3)) (V (Proc.devRef .tc main_arg4))) (V (Proc.devRef .tc main_arg5)) (V (Proc.devRef .tc main_arg6)) := by
  unfold res_main_v17; rw [v15_eq]; rfl

/-- The termination head's first layer as the printed program names it. -/
theorem v73_eq (V : Valuation τ sig (Elt Ideal)) : res_main_v73 V = affR (refCtx (V (Proc.devRef .tc main_arg1)) (V (Proc.devRef .tc main_arg2)) (V (Proc.devRef .tc main_arg3)) (V (Proc.devRef .tc main_arg4))) (V (Proc.devRef .tc main_arg15)) (V (Proc.devRef .tc main_arg16)) := by
  unfold res_main_v73; rw [v15_eq]; rfl

/-- The classifier's first layer as the printed program names it. -/
theorem v54_eq (V : Valuation τ sig (Elt Ideal)) : res_main_v54 V
    = affjR (affR (softR (affR (refCtx (V (Proc.devRef .tc main_arg1)) (V (Proc.devRef .tc main_arg2)) (V (Proc.devRef .tc main_arg3)) (V (Proc.devRef .tc main_arg4))) (V (Proc.devRef .tc main_arg5)) (V (Proc.devRef .tc main_arg6)))) (V (Proc.devRef .tc main_arg7)) (V (Proc.devRef .tc main_arg8)))
        (headR (refPool (V (Proc.devRef .tc main_arg0)) (V (Proc.devRef .tc main_arg1)) (V (Proc.devRef .tc main_arg2))) (V (Proc.devRef .tc main_arg9)) (V (Proc.devRef .tc main_arg10))) (V (Proc.devRef .tc main_arg11)) (V (Proc.devRef .tc main_arg12)) := by
  have hc : res_main_call2_v5 V = wrap16 (near16 (V (Proc.devRef .tc main_arg0)) (V (Proc.devRef .tc main_arg1))) := by
    unfold res_main_call2_v5 res_main_indices_7; rfl
  have he : res_main_v39 V = exp16 (vals16 (V (Proc.devRef .tc main_arg0)) (V (Proc.devRef .tc main_arg1))) := by
    unfold res_main_v39 res_main_values_6; rfl
  unfold res_main_v54 res_main_call1_v3 res_main_call1_cst; rw [hc, he, v17_eq]; rfl

/-- The logits as the printed program names them. -/
theorem v61_eq (V : Valuation τ sig (Elt Ideal)) : res_main_v61 V
    = affoR (softR (affjR (affR (softR (affR (refCtx (V (Proc.devRef .tc main_arg1)) (V (Proc.devRef .tc main_arg2)) (V (Proc.devRef .tc main_arg3)) (V (Proc.devRef .tc main_arg4))) (V (Proc.devRef .tc main_arg5)) (V (Proc.devRef .tc main_arg6)))) (V (Proc.devRef .tc main_arg7)) (V (Proc.devRef .tc main_arg8)))
        (headR (refPool (V (Proc.devRef .tc main_arg0)) (V (Proc.devRef .tc main_arg1)) (V (Proc.devRef .tc main_arg2))) (V (Proc.devRef .tc main_arg9)) (V (Proc.devRef .tc main_arg10))) (V (Proc.devRef .tc main_arg11)) (V (Proc.devRef .tc main_arg12)))) (V (Proc.devRef .tc main_arg13)) (V (Proc.devRef .tc main_arg14)) := by
  unfold res_main_v61 res_main_call3_v3 res_main_call3_cst; rw [v54_eq]; rfl

/-- The reference's first result is the atom-type head of its context and its pooled features. -/
theorem ref_v71 (V : Valuation τ sig (Elt Ideal)) :
    Host.divf (res_main_v67 V) (broadcastInDim S32 ![0] bcast_S1_S32_0 (broadcastInDim S1 ![] bcast_S_S1 (Host.reduceAdd (res_main_v67 V) (constant S_ .f32 0x00000000#32) reducesTo_S32_S_d0 h_S_)))
      = smaxR (affoR (softR (affjR (affR (softR (affR
            (refCtx (V (Proc.devRef .tc main_arg1)) (V (Proc.devRef .tc main_arg2)) (V (Proc.devRef .tc main_arg3)) (V (Proc.devRef .tc main_arg4)))
            (V (Proc.devRef .tc main_arg5)) (V (Proc.devRef .tc main_arg6))))
            (V (Proc.devRef .tc main_arg7)) (V (Proc.devRef .tc main_arg8)))
          (headR (refPool (V (Proc.devRef .tc main_arg0)) (V (Proc.devRef .tc main_arg1)) (V (Proc.devRef .tc main_arg2)))
            (V (Proc.devRef .tc main_arg9)) (V (Proc.devRef .tc main_arg10)))
          (V (Proc.devRef .tc main_arg11)) (V (Proc.devRef .tc main_arg12))))
          (V (Proc.devRef .tc main_arg13)) (V (Proc.devRef .tc main_arg14))) := by
  rw [show res_main_v67 V = expR (res_main_v61 V) from rfl, v61_eq]
  rfl

/-- The reference's second result is the termination head of its context. -/
theorem ref_v86 (V : Valuation τ sig (Elt Ideal)) :
    Host.divf (broadcastInDim S1 ![] bcast_S_S1 (constant S_ .f32 0x3F800000#32)) (addf (broadcastInDim S1 ![] bcast_S_S1 (constant S_ .f32 0x3F800000#32)) (Host.exp (Host.negf (addf (Host.dotGeneral (φ₂ := .f32) dot_S512_S512x1_S1_0_0_n_1_n_n none (subf (select (cmpf .une (res_main_call4_v3 V) (res_main_call4_v3 V)) (addf (res_main_v73 V) (broadcastInDim S512 ![] bcast_S_S512 (res_main_call4_cst V))) (addf (maximumf (res_main_v73 V) (broadcastInDim S512 ![] bcast_S_S512 (res_main_call4_cst V))) (Host.log1p (Host.exp (Host.negf (Host.absf (res_main_call4_v3 V))))))) (broadcastInDim S512 ![] bcast_S_S512 (id (Host.log (constant S_ .f32 0x40000000#32))))) (V (Proc.devRef .tc main_arg17) : FVec Ideal S512x1 .f32)) (V (Proc.devRef .tc main_arg18) : FVec Ideal S1 .f32)))))
      = termR (softR (affR (refCtx (V (Proc.devRef .tc main_arg1)) (V (Proc.devRef .tc main_arg2)) (V (Proc.devRef .tc main_arg3)) (V (Proc.devRef .tc main_arg4))) (V (Proc.devRef .tc main_arg15)) (V (Proc.devRef .tc main_arg16)))) (V (Proc.devRef .tc main_arg17)) (V (Proc.devRef .tc main_arg18)) := by
  unfold res_main_call4_v3 res_main_call4_cst; rw [v73_eq]; rfl

/-- The atom-type head of the reference, read at an entry. -/
theorem atomTypeR_eq (c s : FVec Ideal S512 .f32) (W₁ : FVec Ideal S512x512 .f32) (b₁ : FVec Ideal S512 .f32)
    (W₂ : FVec Ideal S512x512 .f32) (b₂ : FVec Ideal S512 .f32) (W₃ : FVec Ideal S1024x512 .f32) (b₃ : FVec Ideal S512 .f32)
    (W₄ : FVec Ideal S512x32 .f32) (b₄ : FVec Ideal S32 .f32) (j : Fin 32) :
    smaxR (affoR (softR (affjR (affR (softR (affR c W₁ b₁)) W₂ b₂) s W₃ b₃)) W₄ b₄) (ix1 j)
      = atomType (fun i => c (ix1 i)) (fun i => s (ix1 i)) (fun i j => W₁ (ix2 i j)) (fun j => b₁ (ix1 j))
          (fun i j => W₂ (ix2 i j)) (fun j => b₂ (ix1 j)) (fun i j => W₃ (ix2 i j)) (fun j => b₃ (ix1 j))
          (fun i j => W₄ (ix2 i j)) (fun j => b₄ (ix1 j)) j := by
  rw [smaxR_apply]
  unfold atomType
  refine congrArg (fun x => softmax x j) (funext fun j => ?_)
  rw [affoR_apply]
  simp only [softR_apply, affjR_apply, affR_apply]

/-- The termination head of the reference, read at its entry. -/
theorem terminateR_eq (c : FVec Ideal S512 .f32) (W₁ : FVec Ideal S512x512 .f32) (b₁ : FVec Ideal S512 .f32)
    (W₂ : FVec Ideal S512x1 .f32) (b₂ : FVec Ideal S1 .f32) :
    termR (softR (affR c W₁ b₁)) W₂ b₂ (ix1 0)
      = terminate (fun i => c (ix1 i)) (fun i j => W₁ (ix2 i j)) (fun j => b₁ (ix1 j)) (fun i => W₂ (ix2 i 0)) (b₂ (ix1 0)) := by
  rw [termR_apply]
  simp only [softR_apply, affR_apply]
  rfl

end Knn

end
-- ==== Proof.Meet.lean ====
/- The kernel and the reference compute the same function: their contexts and pooled features agree, and so do the heads. -/
module

public import proofs.«01_k».proof.Defs
public import proofs.«01_k».proof.Proof.KMeet
public import proofs.«01_k».proof.Proof.RefVal
public import proofs.«01_k».proof.Proof.Gen.Pre_positions_in_range

@[expose] public section

set_option maxRecDepth 16384

noncomputable section

open Idealize.ShloMosaic Idealize.ShloMosaic.TcCoe Idealize.SL.Sem
open Cert.KernelIdeal Cert.KernelIdeal.Gen

namespace Knn

/-- The 32-bit pattern of three hundred thousand. -/
theorem ofBits_range_f32 : Ideal.ofBits .f32 0x48927C00#32 = ((300000 : ℝ) : EReal) := by
  simp [Ideal.ofBits, Ideal.ieee, -EReal.coe_mul]; norm_num

/-- Coordinates compared with three hundred thousand, all in range, are near points. -/
theorem near_of_cmp {n : ℕ} (x : FVec Ideal ⟨2, ![n, 3]⟩ .f32) (hb : (⟨0, ![]⟩ : Shape).BroadcastsInDim ⟨2, ![n, 3]⟩ (![] : Fin 0 → Fin 2))
    (h : cmpf .ole (Host.absf x) (broadcastInDim ⟨2, ![n, 3]⟩ ![] hb (constant ⟨0, ![]⟩ .f32 0x48927C00#32 : FVec Ideal ⟨0, ![]⟩ .f32)) = fun _ => 1#1) (j : Fin n) :
    Near (rows x j) := by
  refine near_of_abs fun k => ?_
  have h1 : BitVec.ofBool (decide (max (x (ix2 j k) : EReal) (-(x (ix2 j k) : EReal)) ≤ Ideal.ofBits .f32 0x48927C00#32)) = 1#1 := congrFun h (ix2 j k)
  rw [ofBits_range_f32] at h1
  by_contra hn
  have hn' : ¬max (x (ix2 j k) : EReal) (-(x (ix2 j k) : EReal)) ≤ ((300000 : ℝ) : EReal) := hn
  rw [decide_eq_false hn'] at h1
  exact absurd h1 (by decide)

variable (m : (ℓ : Loc nD τ sig) → Buf (Elt Ideal) ℓ) (ρ : Dev nD → PrngReg) (c : Dev nD)

/-- The launch memory's positions are near. -/
structure InRange : Prop where
  /-- The query. -/
  query : ∀ j, Near (rows (m ((c : Thread nD τ).loc main_arg0) : FVec Ideal S1x3 .f32) j)
  /-- The protein atoms. -/
  protein : ∀ j, Near (rows (m ((c : Thread nD τ).loc main_arg1) : FVec Ideal S10000x3 .f32) j)
  /-- The ligand atoms. -/
  ligand : ∀ j, Near (rows (m ((c : Thread nD τ).loc main_arg3) : FVec Ideal S2000x3 .f32) j)

/-- The precondition puts every position in range. -/
theorem inRange_of_pre (h : Cert.Pre_KernelIdeal_positions_in_range m) : InRange m c :=
  ⟨near_of_cmp _ _ (h c).1, near_of_cmp _ _ (h c).2.1, near_of_cmp _ _ (h c).2.2⟩

variable {m c}

/-- The two contexts agree. -/
theorem ctx_meet (h : InRange m c) (i : Fin 512) : (ctxK m c (ix2 0 i) : EReal)
    = refCtx (m ((c : Thread nD τ).loc main_arg1)) (m ((c : Thread nD τ).loc main_arg2)) (m ((c : Thread nD τ).loc main_arg3)) (m ((c : Thread nD τ).loc main_arg4)) (ix1 i) := by
  unfold ctxK
  by_cases hi : i.val < 256
  · refine (ctx_lo _ _ _ ⟨i.val, hi⟩).trans (Eq.trans ?_ (refCtx_lo _ _ _ _ ⟨i.val, hi⟩).symm)
    rw [counted _ _ _ h.protein h.ligand, ofBits_16000_f32, mean_of_means]
    rfl
  · obtain ⟨k, hk⟩ : ∃ k : Fin 256, i = ⟨256 + k.val, by omega⟩ := ⟨⟨i.val - 256, by omega⟩, Fin.ext (by show i.val = 256 + (i.val - 256); omega)⟩
    rw [hk]
    exact (ctx_hi _ _ _ k).trans (refCtx_hi _ _ _ _ k).symm

/-- The two pooled vectors' heads agree. -/
theorem head_meet (h : InRange m c) (i : Fin 512) : (headK m c (ix2 0 i) : EReal)
    = headR (refPool (m ((c : Thread nD τ).loc main_arg0)) (m ((c : Thread nD τ).loc main_arg1)) (m ((c : Thread nD τ).loc main_arg2)))
        (m ((c : Thread nD τ).loc main_arg9)) (m ((c : Thread nD τ).loc main_arg10)) (ix1 i) := by
  rw [headR_apply]
  unfold headK spK aff
  rw [head1_apply, row512]
  refine congrArg₂ (· + ·) (Finset.sum_congr rfl fun k _ => congrArg₂ (· * ·) ?_ rfl) rfl
  exact (pooled _ _ _ (h.query 0) h.protein k topK16_le _ rfl).trans (refPool_apply _ _ _ k _ fun j => rfl).symm

/-- The kernel and the reference compute the same function of arguments whose positions are in range. -/
theorem algebraic : Cert.algebraic_KernelIdeal_ReferenceIdeal_pre_positions_in_range := by
  intro m ρ m' ρ' hpre hagree
  refine ⟨fun c => W5 m ρ c (Proc.devRef .tc main_v20), fun c => W5 m ρ c (Proc.devRef .tc main_v21), ?_, ?_⟩
  · refine (θ_run (defs (F := Ideal)) _ _).mono (fun _ h c => ?_) (ends m ρ)
    exact ⟨h c _ (mem_uc main_v20 (by decide)), h c _ (mem_uc main_v21 (by decide)),
      (h c _ (mem_uc main_arg0 (by decide))).trans (W5_main_arg0 m ρ c), (h c _ (mem_uc main_arg1 (by decide))).trans (W5_main_arg1 m ρ c),
      (h c _ (mem_uc main_arg2 (by decide))).trans (W5_main_arg2 m ρ c), (h c _ (mem_uc main_arg3 (by decide))).trans (W5_main_arg3 m ρ c),
      (h c _ (mem_uc main_arg4 (by decide))).trans (W5_main_arg4 m ρ c), (h c _ (mem_uc main_arg5 (by decide))).trans (W5_main_arg5 m ρ c),
      (h c _ (mem_uc main_arg6 (by decide))).trans (W5_main_arg6 m ρ c), (h c _ (mem_uc main_arg7 (by decide))).trans (W5_main_arg7 m ρ c),
      (h c _ (mem_uc main_arg8 (by decide))).trans (W5_main_arg8 m ρ c), (h c _ (mem_uc main_arg9 (by decide))).trans (W5_main_arg9 m ρ c),
      (h c _ (mem_uc main_arg10 (by decide))).trans (W5_main_arg10 m ρ c), (h c _ (mem_uc main_arg11 (by decide))).trans (W5_main_arg11 m ρ c),
      (h c _ (mem_uc main_arg12 (by decide))).trans (W5_main_arg12 m ρ c), (h c _ (mem_uc main_arg13 (by decide))).trans (W5_main_arg13 m ρ c),
      (h c _ (mem_uc main_arg14 (by decide))).trans (W5_main_arg14 m ρ c), (h c _ (mem_uc main_arg15 (by decide))).trans (W5_main_arg15 m ρ c),
      (h c _ (mem_uc main_arg16 (by decide))).trans (W5_main_arg16 m ρ c), (h c _ (mem_uc main_arg17 (by decide))).trans (W5_main_arg17 m ρ c),
      (h c _ (mem_uc main_arg18 (by decide))).trans (W5_main_arg18 m ρ c)⟩
  · refine (θ_run Cert.ReferenceIdeal.defs _ _).mono (fun _ h c => ⟨(h c).1.trans ?_, (h c).2.1.trans ?_, (h c).2.2⟩)
      (Cert.ReferenceIdeal.Value.run (F := Ideal) m' ρ')
    · have hr := inRange_of_pre m c hpre
      refine (ref_v71 _).trans (funext fun i => ?_)
      obtain ⟨j, rfl⟩ : ∃ j : Fin 32, i = ix1 j := ⟨_, eq_ix1 i⟩
      refine (atomTypeR_eq _ _ _ _ _ _ _ _ _ _ j).trans (Eq.trans ?_ (v20_apply m ρ c j).symm)
      simp only [ctx_meet hr, head_meet hr]
      obtain ⟨e0, e1, e2, e3, e4, e5, e6, e7, e8, e9, e10, e11, e12, e13, e14, e15, e16, e17, e18⟩ := hagree c
      rw [← e0, ← e1, ← e2, ← e3, ← e4, ← e5, ← e6, ← e7, ← e8, ← e9, ← e10, ← e11, ← e12, ← e13, ← e14]
    · have hr := inRange_of_pre m c hpre
      refine (ref_v86 _).trans (funext fun i => ?_)
      obtain rfl : i = ix1 0 := (eq_ix1 i).trans (congrArg ix1 (Subsingleton.elim _ _))
      refine (terminateR_eq _ _ _ _ _).trans (Eq.trans ?_ (v21_apply m ρ c).symm)
      simp only [ctx_meet hr]
      obtain ⟨e0, e1, e2, e3, e4, e5, e6, e7, e8, e9, e10, e11, e12, e13, e14, e15, e16, e17, e18⟩ := hagree c
      rw [← e1, ← e2, ← e3, ← e4, ← e15, ← e16, ← e17, ← e18]

end Knn

end
-- ==== Proof.lean ====
/- The claims about the ligand-conditioned atom and termination heads: the printed kernel and its ideal reading run, leave their
   arguments unchanged and every semaphore counter at zero; the ideal reading is the kernel with its rounded logarithm of two read as
   the logarithm of two; and of arguments whose positions are in range it computes the reference's function. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_positions_in_range
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The one named constant: the kernel's rounded logarithm of two is the logarithm of two. -/
theorem preserves : Cert.preserves_Kernel_KernelIdeal :=
  IdealRules.named_const.statement Cert.KernelIdeal.κ "log2" .f32 0x3F317218#32 ((Real.log 2 : ℝ) : EReal) rfl

/-- The reference leaves its arguments as launched, and it has no semaphore counters. -/
theorem reference_frame : Cert.quiescent_ReferenceIdeal := by
  intro m ρ _
  refine (θ_run Cert.ReferenceIdeal.defs _ _).mono (fun r h => ⟨fun c => (h c).2.2, ?_⟩) (Cert.ReferenceIdeal.Value.run (F := Ideal) m ρ)
  exact sem_eq_zero_of_no_sems (by decide) r.2

/-- The five claims. -/
theorem claim : Cert.Claim := ⟨Cert.Kernel.Gen.facts, Cert.KernelIdeal.Gen.facts, Cert.ReferenceIdeal.Gen.facts, Cert.Pre_positions_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, preserves, Knn.algebraic⟩

end Cert.Proof

end
